-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ReferenceClippedIdeal (m : (ℓ : Loc Cert.ReferenceClippedIdeal.nD Cert.ReferenceClippedIdeal.τ Cert.ReferenceClippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceClippedIdeal [hReferenceClippedIdeal : Cert.ReferenceClippedIdeal.Facts] : Prop :=
  ∀ (m : (ℓ : Loc Cert.ReferenceClippedIdeal.nD Cert.ReferenceClippedIdeal.τ Cert.ReferenceClippedIdeal.sig) → Buf (Elt Ideal) ℓ) (g : Dev Cert.ReferenceClippedIdeal.nD → PrngReg), Pre_ReferenceClippedIdeal m →
    θ_run (Cert.ReferenceClippedIdeal.defs (F := Ideal)) (onTc (τ := Cert.ReferenceClippedIdeal.τ) (Cert.ReferenceClippedIdeal.main (F := Ideal))) ⟨m, fun _ => 0, g⟩ (fun r => (∀ c : Dev Cert.ReferenceClippedIdeal.nD,
      r.2.mem ((c.tc : Thread Cert.ReferenceClippedIdeal.nD Cert.ReferenceClippedIdeal.τ).loc Cert.ReferenceClippedIdeal.main_arg0) = m ((c.tc : Thread Cert.ReferenceClippedIdeal.nD Cert.ReferenceClippedIdeal.τ).loc Cert.ReferenceClippedIdeal.main_arg0)
      ∧ r.2.mem ((c.tc : Thread Cert.ReferenceClippedIdeal.nD Cert.ReferenceClippedIdeal.τ).loc Cert.ReferenceClippedIdeal.main_arg1) = m ((c.tc : Thread Cert.ReferenceClippedIdeal.nD Cert.ReferenceClippedIdeal.τ).loc Cert.ReferenceClippedIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 8192]⟩ ⟨2, ![4096, 8192]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceClippedIdeal_on_within_clip [hKernelIdeal : Cert.KernelIdeal.Facts] [hReferenceClippedIdeal : Cert.ReferenceClippedIdeal.Facts] [hOn_within_clip : Cert.On_within_clip.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceClippedIdeal.nD Cert.ReferenceClippedIdeal.τ Cert.ReferenceClippedIdeal.sig) → Buf (Elt Ideal) ℓ) (g' : Dev Cert.ReferenceClippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceClippedIdeal.nD).tc : Thread Cert.ReferenceClippedIdeal.nD Cert.ReferenceClippedIdeal.τ).loc Cert.ReferenceClippedIdeal.main_arg0))
      ∧ m ((c.tc : Thread Cert.KernelIdeal.nD Cert.KernelIdeal.τ).loc Cert.KernelIdeal.main_arg1) = m' (((0 : Dev Cert.ReferenceClippedIdeal.nD).tc : Thread Cert.ReferenceClippedIdeal.nD Cert.ReferenceClippedIdeal.τ).loc Cert.ReferenceClippedIdeal.main_arg1)) →
    ∃ (v0 : Buf (Elt Ideal) (((0 : Dev Cert.ReferenceClippedIdeal.nD).tc : Thread Cert.ReferenceClippedIdeal.nD Cert.ReferenceClippedIdeal.τ).loc Cert.ReferenceClippedIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![256, 8192]⟩ : Shape).Idx, (Layout.block ⟨2, ![256, 8192]⟩ ⟨2, ![4096, 8192]⟩ 0 16 c ((Cert.On_within_clip.fn (F := Ideal) (m' (((0 : Dev Cert.ReferenceClippedIdeal.nD).tc : Thread Cert.ReferenceClippedIdeal.nD Cert.ReferenceClippedIdeal.τ).loc Cert.ReferenceClippedIdeal.main_arg0)) (m' (((0 : Dev Cert.ReferenceClippedIdeal.nD).tc : Thread Cert.ReferenceClippedIdeal.nD Cert.ReferenceClippedIdeal.τ).loc Cert.ReferenceClippedIdeal.main_arg1)))) : (⟨2, ![256, 8192]⟩ : Shape).Idx → _) i = 1#1 → r.2.mem ((c.tc : Thread Cert.KernelIdeal.nD Cert.KernelIdeal.τ).loc Cert.KernelIdeal.main_v1) i = (Layout.block ⟨2, ![256, 8192]⟩ ⟨2, ![4096, 8192]⟩ 0 16 c v0 : (⟨2, ![256, 8192]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceClippedIdeal.defs (F := Ideal)) (onTc (τ := Cert.ReferenceClippedIdeal.τ) (Cert.ReferenceClippedIdeal.main (F := Ideal))) ⟨m', fun _ => 0, g'⟩ (fun r =>
          (∀ i : (⟨2, ![4096, 8192]⟩ : Shape).Idx, (Cert.On_within_clip.fn (F := Ideal) (m' (((0 : Dev Cert.ReferenceClippedIdeal.nD).tc : Thread Cert.ReferenceClippedIdeal.nD Cert.ReferenceClippedIdeal.τ).loc Cert.ReferenceClippedIdeal.main_arg0)) (m' (((0 : Dev Cert.ReferenceClippedIdeal.nD).tc : Thread Cert.ReferenceClippedIdeal.nD Cert.ReferenceClippedIdeal.τ).loc Cert.ReferenceClippedIdeal.main_arg1))) i = 1#1 → r.2.mem (((0 : Dev Cert.ReferenceClippedIdeal.nD).tc : Thread Cert.ReferenceClippedIdeal.nD Cert.ReferenceClippedIdeal.τ).loc Cert.ReferenceClippedIdeal.main_v8) i = v0 i)
          ∧ r.2.mem (((0 : Dev Cert.ReferenceClippedIdeal.nD).tc : Thread Cert.ReferenceClippedIdeal.nD Cert.ReferenceClippedIdeal.τ).loc Cert.ReferenceClippedIdeal.main_arg0) = m' (((0 : Dev Cert.ReferenceClippedIdeal.nD).tc : Thread Cert.ReferenceClippedIdeal.nD Cert.ReferenceClippedIdeal.τ).loc Cert.ReferenceClippedIdeal.main_arg0)
          ∧ r.2.mem (((0 : Dev Cert.ReferenceClippedIdeal.nD).tc : Thread Cert.ReferenceClippedIdeal.nD Cert.ReferenceClippedIdeal.τ).loc Cert.ReferenceClippedIdeal.main_arg1) = m' (((0 : Dev Cert.ReferenceClippedIdeal.nD).tc : Thread Cert.ReferenceClippedIdeal.nD Cert.ReferenceClippedIdeal.τ).loc Cert.ReferenceClippedIdeal.main_arg1))

def Claim : Prop :=
  ∃ (hKernel : Cert.Kernel.Facts) (hKernelIdeal : Cert.KernelIdeal.Facts) (hReferenceIdeal : Cert.ReferenceIdeal.Facts) (hReferenceClippedIdeal : Cert.ReferenceClippedIdeal.Facts) (hOn_within_clip : Cert.On_within_clip.Facts),
    quiescent_Kernel (hKernel := hKernel)
    ∧ quiescent_KernelIdeal (hKernelIdeal := hKernelIdeal)
    ∧ quiescent_ReferenceIdeal (hReferenceIdeal := hReferenceIdeal)
    ∧ quiescent_ReferenceClippedIdeal (hReferenceClippedIdeal := hReferenceClippedIdeal)
    ∧ preserves_Kernel_KernelIdeal
    ∧ algebraic_KernelIdeal_ReferenceIdeal (hKernelIdeal := hKernelIdeal) (hReferenceIdeal := hReferenceIdeal)
    ∧ algebraic_KernelIdeal_ReferenceClippedIdeal_on_within_clip (hKernelIdeal := hKernelIdeal) (hReferenceClippedIdeal := hReferenceClippedIdeal) (hOn_within_clip := hOn_within_clip)
-- ==== On_within_clip.lean ====
abbrev S4096x4096 : Shape := ⟨2, ![4096, 4096]⟩
abbrev S4096x8192 : Shape := ⟨2, ![4096, 8192]⟩
abbrev S_ : Shape := ⟨0, ![]⟩

class Facts : Prop where
  bitsLt_bf16_f32 : FTy.bits .bf16 < FTy.bits .f32
  bcast_S_S4096x8192 : S_.BroadcastsInDim S4096x8192 (![] : Fin 0 → Fin S4096x8192.rank)
  dot_S4096x4096_S4096x8192_S4096x8192_1_0_0_1_n_n_wf : DotDims.WF S4096x4096 S4096x8192 S4096x8192 [1] [0] [0] [1] [] []

variable [Facts]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf
def fn {F : FTy → Type} [FloatOps F] (main_arg0 : FVec F S4096x4096 .f32) (main_arg1 : FVec F S4096x8192 .f32) : IVec S4096x8192 1 :=
  let main_v0 : FVec F S4096x4096 .bf16 := (truncf .bf16 · bitsLt_bf16_f32) main_arg0
  let main_v1 : FVec F S4096x8192 .bf16 := (truncf .bf16 · bitsLt_bf16_f32) main_arg1
  let main_v2 : FVec F S4096x8192 .f32 := (fun l r => Host.dotGeneral dot_S4096x4096_S4096x8192_S4096x8192_1_0_0_1_n_n none l r) main_v0 main_v1
  let main_cst : FVec F S_ .f32 := constant S_ .f32 0xC2700000#32
  let main_v3 : FVec F S4096x8192 .f32 := broadcastInDim S4096x8192 ![] bcast_S_S4096x8192 main_cst
  let main_v4 : IVec S4096x8192 1 := cmpf .oge main_v2 main_v3
  let main_cst_0 : FVec F S_ .f32 := constant S_ .f32 0x42700000#32
  let main_v5 : FVec F S4096x8192 .f32 := broadcastInDim S4096x8192 ![] bcast_S_S4096x8192 main_cst_0
  let main_v6 : IVec S4096x8192 1 := cmpf .ole main_v2 main_v5
  let main_v7 : IVec S4096x8192 1 := andi main_v4 main_v6
  main_v7
-- ==== Kernel.lean ====
abbrev S4096x256 : Shape := ⟨2, ![4096, 256]⟩
abbrev S4096x8192 : Shape := ⟨2, ![4096, 8192]⟩
abbrev S256x8192 : Shape := ⟨2, ![256, 8192]⟩
abbrev S256x4096 : Shape := ⟨2, ![256, 4096]⟩
abbrev S4x256x8192 : Shape := ⟨3, ![4, 256, 8192]⟩
abbrev S16 : Shape := ⟨1, ![16]⟩
abbrev S4 : Shape := ⟨1, ![4]⟩
abbrev S1 : Shape := ⟨1, ![1]⟩
abbrev S_ : Shape := ⟨0, ![]⟩
abbrev S1x256x8192 : Shape := ⟨3, ![1, 256, 8192]⟩
abbrev S256x256 : Shape := ⟨2, ![256, 256]⟩
abbrev S1x256x2048 : Shape := ⟨3, ![1, 256, 2048]⟩
abbrev S256x2048 : Shape := ⟨2, ![256, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S4096x8192, .f32⟩
  | .hbm, ⟨2, _⟩ => ⟨S256x8192, .f32⟩
  | .local _ .vmem, ⟨0, _⟩ => ⟨S4096x256, .f32⟩
  | .local _ .vmem, ⟨1, _⟩ => ⟨S4096x256, .bf16⟩
  | .local _ .vmem, ⟨2, _⟩ => ⟨S256x4096, .bf16⟩
  | .local _ .vmem, ⟨3, _⟩ => ⟨S4x256x8192, .f32⟩
  | .local _ .vmem, ⟨4, _⟩ => ⟨S256x8192, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  (ofTc nBuf bufTy 1 41 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_off1 (d0 : Dev nD) (c0_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 c0_i32
  let c16_i32_0 : BitVec 32 := 16#32
  let v4 : BitVec 32 := Scalar.addi v3 c16_i32_0
  let c16_i32_1 : BitVec 32 := 16#32
  let v5 : BitVec 32 := Scalar.remsi v4 c16_i32_1
  let c256_i32 : BitVec 32 := 256#32
  let v6 : BitVec 32 := Scalar.muli v5 c256_i32
  let c0_i32_6 : BitVec 32 := 0#32
  ![v6.toNat, 0]
def k0_dev1 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_35 : BitVec 32 := 1#32
  let v46 : BitVec 32 := Scalar.addi v2 c1_i32_35
  let c16_i32_36 : BitVec 32 := 16#32
  let v47 : BitVec 32 := Scalar.remsi v46 c16_i32_36
  let c1_i32_38 : BitVec 32 := 1#32
  let v48 : BitVec 32 := Scalar.muli v47 c1_i32_38
  let v49 : BitVec 32 := Scalar.addi c0_i32_39 v48
  v49.toNat
def k0_dev2 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_40 : BitVec 32 := 2#32
  let v50 : BitVec 32 := Scalar.addi v2 c2_i32_40
  let c16_i32_41 : BitVec 32 := 16#32
  let v51 : BitVec 32 := Scalar.remsi v50 c16_i32_41
  let c1_i32_43 : BitVec 32 := 1#32
  let v52 : BitVec 32 := Scalar.muli v51 c1_i32_43
  let v53 : BitVec 32 := Scalar.addi c0_i32_44 v52
  v53.toNat
def k0_dev3 (d0 : Dev nD) : Nat :=
  let c0_i32_49 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_45 : BitVec 32 := 3#32
  let v54 : BitVec 32 := Scalar.addi v2 c3_i32_45
  let c16_i32_46 : BitVec 32 := 16#32
  let v55 : BitVec 32 := Scalar.remsi v54 c16_i32_46
  let c1_i32_48 : BitVec 32 := 1#32
  let v56 : BitVec 32 := Scalar.muli v55 c1_i32_48
  let v57 : BitVec 32 := Scalar.addi c0_i32_49 v56
  v57.toNat
def k0_dev4 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v58 : BitVec 32 := Scalar.addi v2 c4_i32
  let c16_i32_50 : BitVec 32 := 16#32
  let v59 : BitVec 32 := Scalar.remsi v58 c16_i32_50
  let c1_i32_52 : BitVec 32 := 1#32
  let v60 : BitVec 32 := Scalar.muli v59 c1_i32_52
  let v61 : BitVec 32 := Scalar.addi c0_i32_53 v60
  v61.toNat
def k0_dev5 (d0 : Dev nD) : Nat :=
  let c0_i32_57 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v62 : BitVec 32 := Scalar.addi v2 c5_i32
  let c16_i32_54 : BitVec 32 := 16#32
  let v63 : BitVec 32 := Scalar.remsi v62 c16_i32_54
  let c1_i32_56 : BitVec 32 := 1#32
  let v64 : BitVec 32 := Scalar.muli v63 c1_i32_56
  let v65 : BitVec 32 := Scalar.addi c0_i32_57 v64
  v65.toNat
def k0_dev6 (d0 : Dev nD) : Nat :=
  let c0_i32_61 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v66 : BitVec 32 := Scalar.addi v2 c6_i32
  let c16_i32_58 : BitVec 32 := 16#32
  let v67 : BitVec 32 := Scalar.remsi v66 c16_i32_58
  let c1_i32_60 : BitVec 32 := 1#32
  let v68 : BitVec 32 := Scalar.muli v67 c1_i32_60
  let v69 : BitVec 32 := Scalar.addi c0_i32_61 v68
  v69.toNat
def k0_dev7 (d0 : Dev nD) : Nat :=
  let c0_i32_65 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v70 : BitVec 32 := Scalar.addi v2 c7_i32
  let c16_i32_62 : BitVec 32 := 16#32
  let v71 : BitVec 32 := Scalar.remsi v70 c16_i32_62
  let c1_i32_64 : BitVec 32 := 1#32
  let v72 : BitVec 32 := Scalar.muli v71 c1_i32_64
  let v73 : BitVec 32 := Scalar.addi c0_i32_65 v72
  v73.toNat
def k0_dev8 (d0 : Dev nD) : Nat :=
  let c0_i32_69 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v74 : BitVec 32 := Scalar.addi v2 c8_i32
  let c16_i32_66 : BitVec 32 := 16#32
  let v75 : BitVec 32 := Scalar.remsi v74 c16_i32_66
  let c1_i32_68 : BitVec 32 := 1#32
  let v76 : BitVec 32 := Scalar.muli v75 c1_i32_68
  let v77 : BitVec 32 := Scalar.addi c0_i32_69 v76
  v77.toNat
def k0_dev9 (d0 : Dev nD) : Nat :=
  let c0_i32_73 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v78 : BitVec 32 := Scalar.addi v2 c9_i32
  let c16_i32_70 : BitVec 32 := 16#32
  let v79 : BitVec 32 := Scalar.remsi v78 c16_i32_70
  let c1_i32_72 : BitVec 32 := 1#32
  let v80 : BitVec 32 := Scalar.muli v79 c1_i32_72
  let v81 : BitVec 32 := Scalar.addi c0_i32_73 v80
  v81.toNat
def k0_dev10 (d0 : Dev nD) : Nat :=
  let c0_i32_77 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v82 : BitVec 32 := Scalar.addi v2 c10_i32
  let c16_i32_74 : BitVec 32 := 16#32
  let v83 : BitVec 32 := Scalar.remsi v82 c16_i32_74
  let c1_i32_76 : BitVec 32 := 1#32
  let v84 : BitVec 32 := Scalar.muli v83 c1_i32_76
  let v85 : BitVec 32 := Scalar.addi c0_i32_77 v84
  v85.toNat
def k0_dev11 (d0 : Dev nD) : Nat :=
  let c0_i32_81 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v86 : BitVec 32 := Scalar.addi v2 c11_i32
  let c16_i32_78 : BitVec 32 := 16#32
  let v87 : BitVec 32 := Scalar.remsi v86 c16_i32_78
  let c1_i32_80 : BitVec 32 := 1#32
  let v88 : BitVec 32 := Scalar.muli v87 c1_i32_80
  let v89 : BitVec 32 := Scalar.addi c0_i32_81 v88
  v89.toNat
def k0_dev12 (d0 : Dev nD) : Nat :=
  let c0_i32_85 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v90 : BitVec 32 := Scalar.addi v2 c12_i32
  let c16_i32_82 : BitVec 32 := 16#32
  let v91 : BitVec 32 := Scalar.remsi v90 c16_i32_82
  let c1_i32_84 : BitVec 32 := 1#32
  let v92 : BitVec 32 := Scalar.muli v91 c1_i32_84
  let v93 : BitVec 32 := Scalar.addi c0_i32_85 v92
  v93.toNat
def k0_dev13 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v94 : BitVec 32 := Scalar.addi v2 c13_i32
  let c16_i32_86 : BitVec 32 := 16#32
  let v95 : BitVec 32 := Scalar.remsi v94 c16_i32_86
  let c1_i32_88 : BitVec 32 := 1#32
  let v96 : BitVec 32 := Scalar.muli v95 c1_i32_88
  let v97 : BitVec 32 := Scalar.addi c0_i32_89 v96
  v97.toNat
def k0_dev14 (d0 : Dev nD) : Nat :=
  let c0_i32_93 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v98 : BitVec 32 := Scalar.addi v2 c14_i32
  let c16_i32_90 : BitVec 32 := 16#32
  let v99 : BitVec 32 := Scalar.remsi v98 c16_i32_90
  let c1_i32_92 : BitVec 32 := 1#32
  let v100 : BitVec 32 := Scalar.muli v99 c1_i32_92
  let v101 : BitVec 32 := Scalar.addi c0_i32_93 v100
  v101.toNat
def k0_dev15 (d0 : Dev nD) : Nat :=
  let c0_i32_97 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v102 : BitVec 32 := Scalar.addi v2 c15_i32
  let c16_i32_94 : BitVec 32 := 16#32
  let v103 : BitVec 32 := Scalar.remsi v102 c16_i32_94
  let c1_i32_96 : BitVec 32 := 1#32
  let v104 : BitVec 32 := Scalar.muli v103 c1_i32_96
  let v105 : BitVec 32 := Scalar.addi c0_i32_97 v104
  v105.toNat
def k0_off2 (d0 : Dev nD) : Fin 2 → Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_102 : BitVec 32 := 256#32
  let v109 : BitVec 32 := Scalar.muli v2 c256_i32_102
  ![0, v109.toNat]
def k0_off3 (d0 : Dev nD) (c1_i32_99 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v106 : BitVec 32 := Scalar.addi v2 c1_i32_99
  let c16_i32_100 : BitVec 32 := 16#32
  let v107 : BitVec 32 := Scalar.remsi v106 c16_i32_100
  let c256_i32_101 : BitVec 32 := 256#32
  let v108 : BitVec 32 := Scalar.muli v107 c256_i32_101
  let c0_i32_108 : BitVec 32 := 0#32
  ![v108.toNat, 0]
def k0_dev16 (d0 : Dev nD) : Nat :=
  let c0_i32_106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_99 : BitVec 32 := 1#32
  let v106 : BitVec 32 := Scalar.addi v2 c1_i32_99
  let c16_i32_100 : BitVec 32 := 16#32
  let v107 : BitVec 32 := Scalar.remsi v106 c16_i32_100
  let c1_i32_105 : BitVec 32 := 1#32
  let v110 : BitVec 32 := Scalar.muli v107 c1_i32_105
  let v111 : BitVec 32 := Scalar.addi c0_i32_106 v110
  v111.toNat
def k0_dev17 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_109 : BitVec 32 := 2#32
  let v118 : BitVec 32 := Scalar.addi v2 c2_i32_109
  let c16_i32_110 : BitVec 32 := 16#32
  let v119 : BitVec 32 := Scalar.remsi v118 c16_i32_110
  let c1_i32_115 : BitVec 32 := 1#32
  let v122 : BitVec 32 := Scalar.muli v119 c1_i32_115
  let v123 : BitVec 32 := Scalar.addi c0_i32_116 v122
  v123.toNat
def k0_dev18 (d0 : Dev nD) : Nat :=
  let c0_i32_126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_119 : BitVec 32 := 3#32
  let v130 : BitVec 32 := Scalar.addi v2 c3_i32_119
  let c16_i32_120 : BitVec 32 := 16#32
  let v131 : BitVec 32 := Scalar.remsi v130 c16_i32_120
  let c1_i32_125 : BitVec 32 := 1#32
  let v134 : BitVec 32 := Scalar.muli v131 c1_i32_125
  let v135 : BitVec 32 := Scalar.addi c0_i32_126 v134
  v135.toNat
def k0_dev19 (d0 : Dev nD) : Nat :=
  let c0_i32_136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_129 : BitVec 32 := 4#32
  let v142 : BitVec 32 := Scalar.addi v2 c4_i32_129
  let c16_i32_130 : BitVec 32 := 16#32
  let v143 : BitVec 32 := Scalar.remsi v142 c16_i32_130
  let c1_i32_135 : BitVec 32 := 1#32
  let v146 : BitVec 32 := Scalar.muli v143 c1_i32_135
  let v147 : BitVec 32 := Scalar.addi c0_i32_136 v146
  v147.toNat
def k0_dev20 (d0 : Dev nD) : Nat :=
  let c0_i32_146 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_139 : BitVec 32 := 5#32
  let v154 : BitVec 32 := Scalar.addi v2 c5_i32_139
  let c16_i32_140 : BitVec 32 := 16#32
  let v155 : BitVec 32 := Scalar.remsi v154 c16_i32_140
  let c1_i32_145 : BitVec 32 := 1#32
  let v158 : BitVec 32 := Scalar.muli v155 c1_i32_145
  let v159 : BitVec 32 := Scalar.addi c0_i32_146 v158
  v159.toNat
def k0_dev21 (d0 : Dev nD) : Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_149 : BitVec 32 := 6#32
  let v166 : BitVec 32 := Scalar.addi v2 c6_i32_149
  let c16_i32_150 : BitVec 32 := 16#32
  let v167 : BitVec 32 := Scalar.remsi v166 c16_i32_150
  let c1_i32_155 : BitVec 32 := 1#32
  let v170 : BitVec 32 := Scalar.muli v167 c1_i32_155
  let v171 : BitVec 32 := Scalar.addi c0_i32_156 v170
  v171.toNat
def k0_dev22 (d0 : Dev nD) : Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_159 : BitVec 32 := 7#32
  let v178 : BitVec 32 := Scalar.addi v2 c7_i32_159
  let c16_i32_160 : BitVec 32 := 16#32
  let v179 : BitVec 32 := Scalar.remsi v178 c16_i32_160
  let c1_i32_165 : BitVec 32 := 1#32
  let v182 : BitVec 32 := Scalar.muli v179 c1_i32_165
  let v183 : BitVec 32 := Scalar.addi c0_i32_166 v182
  v183.toNat
def k0_dev23 (d0 : Dev nD) : Nat :=
  let c0_i32_176 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_169 : BitVec 32 := 8#32
  let v190 : BitVec 32 := Scalar.addi v2 c8_i32_169
  let c16_i32_170 : BitVec 32 := 16#32
  let v191 : BitVec 32 := Scalar.remsi v190 c16_i32_170
  let c1_i32_175 : BitVec 32 := 1#32
  let v194 : BitVec 32 := Scalar.muli v191 c1_i32_175
  let v195 : BitVec 32 := Scalar.addi c0_i32_176 v194
  v195.toNat
def k0_dev24 (d0 : Dev nD) : Nat :=
  let c0_i32_186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_179 : BitVec 32 := 9#32
  let v202 : BitVec 32 := Scalar.addi v2 c9_i32_179
  let c16_i32_180 : BitVec 32 := 16#32
  let v203 : BitVec 32 := Scalar.remsi v202 c16_i32_180
  let c1_i32_185 : BitVec 32 := 1#32
  let v206 : BitVec 32 := Scalar.muli v203 c1_i32_185
  let v207 : BitVec 32 := Scalar.addi c0_i32_186 v206
  v207.toNat
def k0_dev25 (d0 : Dev nD) : Nat :=
  let c0_i32_196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_189 : BitVec 32 := 10#32
  let v214 : BitVec 32 := Scalar.addi v2 c10_i32_189
  let c16_i32_190 : BitVec 32 := 16#32
  let v215 : BitVec 32 := Scalar.remsi v214 c16_i32_190
  let c1_i32_195 : BitVec 32 := 1#32
  let v218 : BitVec 32 := Scalar.muli v215 c1_i32_195
  let v219 : BitVec 32 := Scalar.addi c0_i32_196 v218
  v219.toNat
def k0_dev26 (d0 : Dev nD) : Nat :=
  let c0_i32_206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_199 : BitVec 32 := 11#32
  let v226 : BitVec 32 := Scalar.addi v2 c11_i32_199
  let c16_i32_200 : BitVec 32 := 16#32
  let v227 : BitVec 32 := Scalar.remsi v226 c16_i32_200
  let c1_i32_205 : BitVec 32 := 1#32
  let v230 : BitVec 32 := Scalar.muli v227 c1_i32_205
  let v231 : BitVec 32 := Scalar.addi c0_i32_206 v230
  v231.toNat
def k0_dev27 (d0 : Dev nD) : Nat :=
  let c0_i32_216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_209 : BitVec 32 := 12#32
  let v238 : BitVec 32 := Scalar.addi v2 c12_i32_209
  let c16_i32_210 : BitVec 32 := 16#32
  let v239 : BitVec 32 := Scalar.remsi v238 c16_i32_210
  let c1_i32_215 : BitVec 32 := 1#32
  let v242 : BitVec 32 := Scalar.muli v239 c1_i32_215
  let v243 : BitVec 32 := Scalar.addi c0_i32_216 v242
  v243.toNat
def k0_dev28 (d0 : Dev nD) : Nat :=
  let c0_i32_226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_219 : BitVec 32 := 13#32
  let v250 : BitVec 32 := Scalar.addi v2 c13_i32_219
  let c16_i32_220 : BitVec 32 := 16#32
  let v251 : BitVec 32 := Scalar.remsi v250 c16_i32_220
  let c1_i32_225 : BitVec 32 := 1#32
  let v254 : BitVec 32 := Scalar.muli v251 c1_i32_225
  let v255 : BitVec 32 := Scalar.addi c0_i32_226 v254
  v255.toNat
def k0_dev29 (d0 : Dev nD) : Nat :=
  let c0_i32_236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_229 : BitVec 32 := 14#32
  let v262 : BitVec 32 := Scalar.addi v2 c14_i32_229
  let c16_i32_230 : BitVec 32 := 16#32
  let v263 : BitVec 32 := Scalar.remsi v262 c16_i32_230
  let c1_i32_235 : BitVec 32 := 1#32
  let v266 : BitVec 32 := Scalar.muli v263 c1_i32_235
  let v267 : BitVec 32 := Scalar.addi c0_i32_236 v266
  v267.toNat
def k0_dev30 (d0 : Dev nD) : Nat :=
  let c0_i32_246 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_239 : BitVec 32 := 15#32
  let v274 : BitVec 32 := Scalar.addi v2 c15_i32_239
  let c16_i32_240 : BitVec 32 := 16#32
  let v275 : BitVec 32 := Scalar.remsi v274 c16_i32_240
  let c1_i32_245 : BitVec 32 := 1#32
  let v278 : BitVec 32 := Scalar.muli v275 c1_i32_245
  let v279 : BitVec 32 := Scalar.addi c0_i32_246 v278
  v279.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_249 : BitVec 32 := 256#32
  let v286 : BitVec 32 := Scalar.muli v2 c256_i32_249
  let v287 : Index := Scalar.indexCast v286
  let c0_250 : Index := 0#32
  ![v287.toNat, 0]
def k0_off5 (d0 : Dev nD) : Fin 2 → Nat :=
  let c0_252 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_251 : BitVec 32 := 256#32
  let v289 : BitVec 32 := Scalar.muli v2 c256_i32_251
  let v290 : Index := Scalar.indexCast v289
  ![0, v290.toNat]
def k0_off6 (d0 : Dev nD) (c0_i32_262 : BitVec 32) : Fin 2 → Nat :=
  let c0_266 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v303 : BitVec 32 := Scalar.subi v2 c0_i32_262
  let c16_i32_263 : BitVec 32 := 16#32
  let v304 : BitVec 32 := Scalar.addi v303 c16_i32_263
  let c16_i32_264 : BitVec 32 := 16#32
  let v305 : BitVec 32 := Scalar.remsi v304 c16_i32_264
  let c256_i32_265 : BitVec 32 := 256#32
  let v306 : BitVec 32 := Scalar.muli v305 c256_i32_265
  let v307 : Index := Scalar.indexCast v306
  ![0, v307.toNat]
def k0_off7 (d0 : Dev nD) (c1_i32_290 : BitVec 32) : Fin 2 → Nat :=
  let c0_i32_298 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v334 : BitVec 32 := Scalar.subi v2 c1_i32_290
  let c16_i32_291 : BitVec 32 := 16#32
  let v335 : BitVec 32 := Scalar.addi v334 c16_i32_291
  let c16_i32_292 : BitVec 32 := 16#32
  let v336 : BitVec 32 := Scalar.remsi v335 c16_i32_292
  let c256_i32_293 : BitVec 32 := 256#32
  let v337 : BitVec 32 := Scalar.muli v336 c256_i32_293
  ![0, v337.toNat]
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x4096, .bf16⟩
  | .hbm, ⟨3, _⟩ => ⟨S4096x8192, .bf16⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== ReferenceClippedIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x4096, .bf16⟩
  | .hbm, ⟨3, _⟩ => ⟨S4096x8192, .bf16⟩
  | .hbm, ⟨4, _⟩ => ⟨S4096x8192, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S4096x8192, .f32⟩
  | .hbm, ⟨15, _⟩ => ⟨S_, .f32⟩
  | .hbm, ⟨16, _⟩ => ⟨S4096x8192, .f32⟩
  | .hbm, ⟨17, _⟩ => ⟨S4096x8192, .f32⟩
  | .hbm, ⟨18, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Proof.Canon.lean ====
module

public import proofs.«01_k».proof.Proof.Gen.KernelIdeal.Skeleton
public import proofs.«01_k».proof.Proof.Gen.KernelIdeal.Points

/-!
# The kernel body with its repeated statements written as loops

The printed body lists every transfer, signal and product one after another. Here each kind of statement is
one definition over a symbolic index, the body is a sequence of loops over lists of indices, and the two
programs are the same by unfolding.
-/

@[expose] public section

noncomputable section

namespace Cert.KernelIdeal.A2a

open Idealize.ShloMosaic Idealize.ShloMosaic.TcCoe
open Idealize.SL Idealize.SL.Sem
open Cert.KernelIdeal Cert.KernelIdeal.Gen

variable {F : FTy → Type} [FloatOps F]

/-- Run `f` on every element of a list, in order. -/
def loop {E : Type → Type} {α : Type} (f : α → Prog E PUnit) : List α → Prog E PUnit
  | [] => pure ⟨⟩
  | a :: l => f a >>= fun _ => loop f l

/-! ## Buffers and views -/

/-- The staged block of `x`. -/
abbrev mX : Memref sig .tc .vmem S4096x256 .f32 := Memref.whole cc0_stg0_0
/-- The matrix `w` in HBM. -/
abbrev mW : Memref sig .tc .hbm S4096x8192 .f32 := Memref.whole main_arg1
/-- The result in HBM. -/
abbrev mOut : Memref sig .tc .hbm S256x8192 .f32 := Memref.whole main_v1
/-- The rounded copy of the block of `x`. -/
abbrev mXbf : Memref sig .tc .vmem S4096x256 .bf16 := Memref.whole cc0_scratch0
/-- The gathered rows of `x`. -/
abbrev mRow : Memref sig .tc .vmem S256x4096 .bf16 := Memref.whole cc0_scratch1
/-- The four slots of `w` blocks. -/
abbrev mBuf : Memref sig .tc .vmem S4x256x8192 .f32 := Memref.whole cc0_scratch2
/-- The accumulator. -/
abbrev mAcc : Memref sig .tc .vmem S256x8192 .f32 := Memref.whole cc0_scratch3

theorem inbS16 (j : Fin 16) : ∀ a, (![j.val] : Fin 1 → ℕ) a + S1.size a ≤ S16.size a := by
  revert j; decide +kernel
theorem inbS4 (q : Fin 4) : ∀ a, (![q.val] : Fin 1 → ℕ) a + S1.size a ≤ S4.size a := by
  revert q; decide +kernel
theorem inbSlot (q : Fin 4) : ∀ a, (![q.val, 0, 0] : Fin 3 → ℕ) a + S1x256x8192.size a ≤ S4x256x8192.size a := by
  revert q; decide +kernel
theorem inbSlotQ (q : Fin 4) : ∀ a, (![3, 0, 2048 * q.val] : Fin 3 → ℕ) a + S1x256x2048.size a ≤ S4x256x8192.size a := by
  revert q; decide +kernel
theorem inbQ (q : Fin 4) : ∀ a, (![0, 2048 * q.val] : Fin 2 → ℕ) a + S256x2048.size a ≤ S256x8192.size a := by
  revert q; decide +kernel

/-- The slot of step `j`. -/
abbrev slotOf (j : Fin 16) : Fin 4 := ⟨j.val % 4, Nat.mod_lt _ (by decide)⟩
/-- The step that takes what peer number `r` sent. -/
abbrev stepOf (r : Fin 15) : Fin 16 := ⟨1 + r.val, by omega⟩

/-- The semaphore on which send `r` is read out. -/
abbrev sendSem (r : Fin 15) : DmaSem sig :=
  ((cc0_scratch4.slice (Rect.unit (s := S16) ![(stepOf r).val] S1.size (inbS16 (stepOf r)))).squeeze S_ squeezes_S1_S_).sem
/-- The semaphore on which receive `r` arrives. -/
abbrev recvSem (r : Fin 15) : DmaSem sig :=
  ((cc0_scratch5.slice (Rect.unit (s := S16) ![(stepOf r).val] S1.size (inbS16 (stepOf r)))).squeeze S_ squeezes_S1_S_).sem
/-- The semaphore on which a load into slot `q` arrives. -/
abbrev loadSem (q : Fin 4) : DmaSem sig :=
  ((cc0_scratch6.slice (Rect.unit (s := S4) ![q.val] S1.size (inbS4 q))).squeeze S_ squeezes_S1_S_).sem
/-- The semaphore on which quarter `q` of the result is written. -/
abbrev outSem (q : Fin 4) : DmaSem sig :=
  ((cc0_scratch7.slice (Rect.unit (s := S4) ![q.val] S1.size (inbS4 q))).squeeze S_ squeezes_S1_S_).sem
/-- The barrier semaphore. -/
abbrev barSem : Sem sig := (SemArray.scalar (sig.barrier 0 rfl) : Sems sig S_).sem

/-- The rows of `w` that step `j` takes. -/
abbrev vW (d : Dev nD) (j : Fin 16) : Memref sig .tc .hbm S256x8192 .f32 :=
  mW.slice (Rect.unit (s := S4096x8192) (k0_off1 d (BitVec.ofNat 32 j.val)) S256x8192.size (k0_off1_inb d j)) (fun _ => rfl)
/-- Slot `q`. -/
abbrev vSlot (q : Fin 4) : Memref sig .tc .vmem S256x8192 .f32 :=
  (mBuf.slice (Rect.unit (s := S4x256x8192) ![q.val, 0, 0] S1x256x8192.size (inbSlot q)) (fun _ => rfl)).squeeze S256x8192 squeezes_S1x256x8192_S256x8192
/-- The rows of the rounded block that go to peer `r`. -/
abbrev vSrc (d : Dev nD) (r : Fin 15) : Memref sig .tc .vmem S256x256 .bf16 :=
  mXbf.slice (Rect.unit (s := S4096x256) (k0_off3 d (BitVec.ofNat 32 (1 + r.val))) S256x256.size (k0_off3_inb d r)) (fun _ => rfl)
/-- The columns of the gathered rows that device `d` fills. -/
abbrev vDst (d : Dev nD) : Memref sig .tc .vmem S256x256 .bf16 :=
  mRow.slice (Rect.unit (s := S256x4096) (k0_off2 d) S256x256.size (k0_off2_inb d)) (fun _ => rfl)
/-- The columns of the gathered rows that receive `r` fills. -/
abbrev vRcv (d : Dev nD) (r : Fin 15) : Memref sig .tc .vmem S256x256 .bf16 :=
  mRow.slice (Rect.unit (s := S256x4096) (k0_off7 d (BitVec.ofNat 32 (1 + r.val))) S256x256.size (k0_off7_inb d r)) (fun _ => rfl)
/-- The view a receive's wait names as its source: only its size matters. -/
abbrev vZero : Memref sig .tc .vmem S256x256 .bf16 :=
  mXbf.slice (Rect.unit (s := S4096x256) ![0, 0] S256x256.size inb_S4096x256_S256x256_0_0) (fun _ => rfl)
/-- Quarter `q` of the result. -/
abbrev vOut (q : Fin 4) : Memref sig .tc .hbm S256x2048 .f32 :=
  mOut.slice (Rect.unit (s := S256x8192) ![0, 2048 * q.val] S256x2048.size (inbQ q)) (fun _ => rfl)
/-- Quarter `q` of the accumulator. -/
abbrev vAcc (q : Fin 4) : Memref sig .tc .vmem S256x2048 .f32 :=
  mAcc.slice (Rect.unit (s := S256x8192) ![0, 2048 * q.val] S256x2048.size (inbQ q)) (fun _ => rfl)

/-- The device signal and send number `r` go to. -/
abbrev sigDev (d : Dev nD) : Fin 15 → Dev nD :=
  ![⟨k0_dev1 d, k0_dev1_lt d⟩, ⟨k0_dev2 d, k0_dev2_lt d⟩, ⟨k0_dev3 d, k0_dev3_lt d⟩, ⟨k0_dev4 d, k0_dev4_lt d⟩,
    ⟨k0_dev5 d, k0_dev5_lt d⟩, ⟨k0_dev6 d, k0_dev6_lt d⟩, ⟨k0_dev7 d, k0_dev7_lt d⟩, ⟨k0_dev8 d, k0_dev8_lt d⟩,
    ⟨k0_dev9 d, k0_dev9_lt d⟩, ⟨k0_dev10 d, k0_dev10_lt d⟩, ⟨k0_dev11 d, k0_dev11_lt d⟩, ⟨k0_dev12 d, k0_dev12_lt d⟩,
    ⟨k0_dev13 d, k0_dev13_lt d⟩, ⟨k0_dev14 d, k0_dev14_lt d⟩, ⟨k0_dev15 d, k0_dev15_lt d⟩]
abbrev sndDev (d : Dev nD) : Fin 15 → Dev nD :=
  ![⟨k0_dev16 d, k0_dev16_lt d⟩, ⟨k0_dev17 d, k0_dev17_lt d⟩, ⟨k0_dev18 d, k0_dev18_lt d⟩, ⟨k0_dev19 d, k0_dev19_lt d⟩,
    ⟨k0_dev20 d, k0_dev20_lt d⟩, ⟨k0_dev21 d, k0_dev21_lt d⟩, ⟨k0_dev22 d, k0_dev22_lt d⟩, ⟨k0_dev23 d, k0_dev23_lt d⟩,
    ⟨k0_dev24 d, k0_dev24_lt d⟩, ⟨k0_dev25 d, k0_dev25_lt d⟩, ⟨k0_dev26 d, k0_dev26_lt d⟩, ⟨k0_dev27 d, k0_dev27_lt d⟩,
    ⟨k0_dev28 d, k0_dev28_lt d⟩, ⟨k0_dev29 d, k0_dev29_lt d⟩, ⟨k0_dev30 d, k0_dev30_lt d⟩]

/-! ## The statements -/

/-- Programs of the kernel. -/
abbrev P (F : FTy → Type) (α : Type) := Prog (TpuEff nD τ sig (Elt F) Λ₀ .tc) α

/-- Start the load of `w` for step `j`. -/
def loadW (d : Dev nD) (j : Fin 16) : P F PUnit :=
  Prog.lift (.enqueueDma (vW d j) (.here (vSlot (slotOf j))) (.dma (loadSem (slotOf j))) (View.wordExact_bits rfl)
    ((View.wordExact_bits rfl).reshape _ _) ⟨Or.inl rfl, trivial⟩)
/-- Wait for the load of step `j`. -/
def waitW (d : Dev nD) (j : Fin 16) : P F PUnit :=
  Prog.lift (.waitDma2 (loadSem (slotOf j)) (vW d j) (vSlot (slotOf j)) (View.wordExact_bits rfl)
    ((View.wordExact_bits rfl).reshape _ _))
/-- Round the block of `x` into its copy. -/
def castX : P F PUnit := do
  let v ← Prog.lift (.load mX (Rect.unit (s := S4096x256) ![0, 0] S4096x256.size inb_S4096x256_S4096x256_0_0).toLoadRect (View.loadsAt_vmem h_S4096x256))
  let _ ← Prog.lift (.load mXbf (Rect.unit (s := S4096x256) ![0, 0] S4096x256.size inb_S4096x256_S4096x256_0_0).toLoadRect (View.loadsAt_vmem h_S4096x256))
  Prog.lift (.store mXbf (Rect.unit (s := S4096x256) ![0, 0] S4096x256.size inb_S4096x256_S4096x256_0_0) (k0_pay1 v) Finset.univ
    (View.stores_vmem h_S4096x256 ((Memref.isWhole_whole cc0_scratch0).storeExact_slice rfl _ packedbf16_S4096x256_S4096x256_0_0) (fun _ => rfl)) (.inl rfl))
/-- Signal peer `r`'s barrier. -/
def signal (d : Dev nD) (r : Fin 15) : P F PUnit := semSignalWord (sigDev d r) barSem 1#32
/-- Send peer `r` its rows. -/
def send (d : Dev nD) (r : Fin 15) : P F PUnit :=
  Prog.lift (.enqueueDma (vSrc d r) (.remote (Dev.tc (sndDev d r)) (vDst d) (.dma (sendSem r))) (.dma (recvSem r))
    ((Memref.isWhole_whole cc0_scratch0).wordExact_slice rfl _ (k0_off3_wordsbf16 d r))
    ((Memref.isWhole_whole cc0_scratch1).wordExact_slice rfl _ (k0_off2_wordsbf16 d)) ⟨⟨rfl, Or.inl rfl⟩, trivial⟩)
/-- Copy the device's own rows. -/
def ownCopy (d : Dev nD) : P F PUnit := do
  let v ← Prog.lift (.load mXbf (Rect.unit (s := S4096x256) (k0_off4 d) S256x256.size (k0_off4_inb d)).toLoadRect (View.loadsAt_vmem h_S256x256))
  let _ ← Prog.lift (.load mRow (Rect.unit (s := S256x4096) (k0_off5 d) S256x256.size (k0_off5_inb d)).toLoadRect (View.loadsAt_vmem h_S256x256))
  Prog.lift (.store mRow (Rect.unit (s := S256x4096) (k0_off5 d) S256x256.size (k0_off5_inb d)) (k0_pay2 v) Finset.univ
    (View.stores_vmem h_S256x256 ((Memref.isWhole_whole cc0_scratch1).storeExact_slice rfl _ (k0_off5_packedbf16 d)) (fun _ => rfl)) (.inl rfl))
/-- Read the columns of the gathered rows for step `j`. -/
def readRow (d : Dev nD) (j : Fin 16) : P F (Vec F S256x256 .bf16) :=
  Prog.lift (.load mRow (Rect.unit (s := S256x4096) (k0_off6 d (BitVec.ofNat 32 j.val)) S256x256.size (k0_off6_inb d j)).toLoadRect (View.loadsAt_vmem h_S256x256))
/-- Read slot `q`. -/
def readSlot (q : Fin 4) : P F (Vec F S1x256x8192 .f32) :=
  Prog.lift (.load mBuf (Rect.unit (s := S4x256x8192) ![q.val, 0, 0] S1x256x8192.size (inbSlot q)).toLoadRect (View.loadsAt_vmem h_S1x256x8192))
/-- Read the accumulator. -/
def readAcc : P F (Vec F S256x8192 .f32) :=
  Prog.lift (.load mAcc (Rect.unit (s := S256x8192) ![0, 0] S256x8192.size inb_S256x8192_S256x8192_0_0).toLoadRect (View.loadsAt_vmem h_S256x8192))
/-- Write the accumulator. -/
def writeAcc (v : FVec F S256x8192 .f32) : P F PUnit :=
  Prog.lift (.store mAcc (Rect.unit (s := S256x8192) ![0, 0] S256x8192.size inb_S256x8192_S256x8192_0_0) v Finset.univ (View.stores_vmem_bits_univ h_S256x8192 rfl) (.inl rfl))
/-- The first product. -/
def step0 (d : Dev nD) : P F PUnit := do
  waitW d 0
  let a ← readRow d 0
  let b ← readSlot (slotOf 0)
  let _ ← readAcc
  writeAcc (k0_pay3 a b)
/-- Wait for receive `r`. -/
def waitRecv (d : Dev nD) (r : Fin 15) : P F PUnit :=
  Prog.lift (.waitDma2 (recvSem r) vZero (vRcv d r)
    ((Memref.isWhole_whole cc0_scratch0).wordExact_slice rfl _ wordsbf16_S4096x256_S256x256_0_0)
    ((Memref.isWhole_whole cc0_scratch1).wordExact_slice rfl _ (k0_off7_wordsbf16 d r)))
/-- Step `1 + r`: add one product to the accumulator. -/
def step (d : Dev nD) (r : Fin 15) : P F PUnit := do
  waitW d (stepOf r)
  waitRecv d r
  let a ← readRow d (stepOf r)
  let b ← readSlot (slotOf (stepOf r))
  let v ← readAcc
  let _ ← readAcc
  writeAcc (k0_pay6 a b v)
/-- Read quarter `q` of the last slot. -/
def readSlotQ (q : Fin 4) : P F (Vec F S1x256x2048 .f32) :=
  Prog.lift (.load mBuf (Rect.unit (s := S4x256x8192) ![3, 0, 2048 * q.val] S1x256x2048.size (inbSlotQ q)).toLoadRect (View.loadsAt_vmem h_S1x256x2048))
/-- Read quarter `q` of the accumulator. -/
def readAccQ (q : Fin 4) : P F (Vec F S256x2048 .f32) :=
  Prog.lift (.load mAcc (Rect.unit (s := S256x8192) ![0, 2048 * q.val] S256x2048.size (inbQ q)).toLoadRect (View.loadsAt_vmem h_S256x2048))
/-- The last product on quarter `q`, its activation, and the start of its write to the result. -/
def quarter (d : Dev nD) (q : Fin 4) : P F PUnit := do
  let a ← readRow d 15
  let b ← readSlotQ q
  let v ← readAccQ q
  let _ ← readAccQ q
  Prog.lift (.store mAcc (Rect.unit (s := S256x8192) ![0, 2048 * q.val] S256x2048.size (inbQ q)) (k0_pay21 a b v) Finset.univ (View.stores_vmem_bits_univ h_S256x2048 rfl) (.inl rfl))
  Prog.lift (.enqueueDma (vAcc q) (.here (vOut q)) (.dma (outSem q)) (View.wordExact_bits rfl) (View.wordExact_bits rfl) ⟨Or.inl rfl, trivial⟩)
/-- Wait until send `r` is read out. -/
def waitSend (d : Dev nD) (r : Fin 15) : P F PUnit :=
  Prog.lift (.waitDma2 (sendSem r) (vDst d) (vSrc d r)
    ((Memref.isWhole_whole cc0_scratch1).wordExact_slice rfl _ (k0_off2_wordsbf16 d))
    ((Memref.isWhole_whole cc0_scratch0).wordExact_slice rfl _ (k0_off3_wordsbf16 d r)))
/-- Wait until quarter `q` of the result is written. -/
def waitOut (q : Fin 4) : P F PUnit :=
  Prog.lift (.waitDma2 (outSem q) (vAcc q) (vOut q) (View.wordExact_bits rfl) (View.wordExact_bits rfl))

/-- All peers, in the order of the kernel. -/
abbrev peers : List (Fin 15) := [0, 1, 2, 3, 4, 5, 6, 7, 8, 9, 10, 11, 12, 13, 14]
/-- The peers whose step is followed by another load. -/
abbrev peersA : List (Fin 15) := [0, 1, 2, 3, 4, 5, 6, 7, 8, 9, 10]
/-- The load that follows step `1 + r`. -/
abbrev nextOf (r : Fin 15) : Fin 16 := ⟨(5 + r.val) % 16, Nat.mod_lt _ (by decide)⟩

/-- The body as loops, on device `d`. -/
def canonAt (d : Dev nD) : P F PUnit := do
  loop (loadW d) [0, 1, 2, 3]
  castX
  loop (signal d) peers
  semWaitWord barSem 15#32
  loop (send d) peers
  ownCopy d
  step0 d
  loadW d 4
  loop (fun r => do step d r; loadW d (nextOf r)) peersA
  loop (step d) [11, 12, 13]
  waitW d 15
  waitRecv d 14
  loop (quarter d) [0, 1, 2, 3]
  loop (waitSend d) peers
  loop waitOut [0, 1, 2, 3]

/-- The body as loops. -/
def canon : P F PUnit := do
  let d ← Prog.lift .deviceId
  canonAt d

set_option maxRecDepth 65536 in
set_option maxHeartbeats 4000000 in
/-- The printed body is the body as loops. -/
theorem body_eq_canon (t : Fin cfg0.N) : bodyAt0 (F := F) t = canon (F := F) := by
  rfl

end Cert.KernelIdeal.A2a
end
-- ==== Proof.Contents.lean ====
module

public import proofs.«01_k».proof.Proof.Canon
public import Idealize.ShloMosaic.Lib.Pipeline.ValueKit.Geometry
public import Idealize.ShloMosaic.Lib.Pointwise.Index

/-!
# What the buffers hold, and how they are cut

Every buffer that several transfers share is cut into strips along one axis. The contents of the buffers are
given once for a whole buffer, so that strips are joined by agreement.
-/

@[expose] public section

set_option maxRecDepth 16384

noncomputable section

namespace Cert.KernelIdeal.A2a

open Idealize.ShloMosaic Idealize.ShloMosaic.TcCoe
open Idealize.SL Idealize.SL.Sem
open Cert.KernelIdeal Cert.KernelIdeal.Gen

variable {F : FTy → Type} [FloatOps F]

/-! ## Strips -/

/-- The indices whose coordinate on axis `a` lies in strip `k` of width `n`. -/
def strip (s : Shape) (a : Fin s.rank) (n k : ℕ) : Finset s.Idx :=
  Finset.univ.filter fun i => (i a).val / n = k

theorem mem_strip {s : Shape} {a : Fin s.rank} {n k : ℕ} {i : s.Idx} : i ∈ strip s a n k ↔ (i a).val / n = k := by
  simp [strip]

/-- Different strips have no index in common. -/
theorem strip_disjoint {s : Shape} {a : Fin s.rank} {n k k' : ℕ} (h : k ≠ k') : Disjoint (strip s a n k) (strip s a n k') := by
  rw [Finset.disjoint_left]
  intro i hi hi'
  exact h ((mem_strip.mp hi).symm.trans (mem_strip.mp hi'))

/-- The strips cover the shape. -/
theorem strip_cover {s : Shape} {a : Fin s.rank} {n K : ℕ} (h : s.size a = n * K) :
    (Finset.univ : Finset (Fin K)).biUnion (fun k => strip s a n k.val) = Finset.univ := by
  ext i
  simp only [Finset.mem_biUnion, Finset.mem_univ, true_and, iff_true]
  have hi : (i a).val < n * K := h ▸ (i a).isLt
  exact ⟨⟨(i a).val / n, Nat.div_lt_of_lt_mul hi⟩, mem_strip.mpr rfl⟩

/-- A unit-stride rectangle that spans one strip is that strip. -/
theorem unit_set_strip {s : Shape} (a : Fin s.rank) (n k : ℕ) {off size : Fin s.rank → ℕ} {inb} (hn : 0 < n)
    (ho : off a = n * k) (hs : size a = n) (hb : ∀ b, b ≠ a → off b = 0 ∧ size b = s.size b) :
    (Rect.unit (s := s) off size inb).set = strip s a n k := by
  ext i
  rw [Rect.mem_set_unit, mem_strip]
  constructor
  · intro h
    have := h a
    rw [ho, hs] at this
    exact Nat.div_eq_of_lt_le (by rw [Nat.mul_comm]; exact this.1) (by rw [Nat.succ_mul, Nat.mul_comm]; exact this.2)
  · intro h b
    by_cases hba : b = a
    · subst hba
      rw [ho, hs]
      have h1 := Nat.div_add_mod (i b).val n
      have h2 := Nat.mod_lt (i b).val hn
      rw [h] at h1
      omega
    · obtain ⟨h0, h1⟩ := hb b hba
      rw [h0, h1]
      exact ⟨Nat.zero_le _, by rw [Nat.zero_add]; exact (i b).isLt⟩

/-- A write through a view of what another contents reads there gives that contents on the view. -/
theorem write_read_on {sig : RefSig} {κ : Kind} {sp : Space} {s : Shape} {e : EltTy} (v : View sig κ sp s e) (Val : EltTy → Type)
    (f g : v.ty.Contents Val) (w : s.Idx → Val e) (h : w = v.read Val g) : ∀ i ∈ v.set, v.write Val f w Finset.univ i = g i := by
  intro i hi
  obtain ⟨x, -, rfl⟩ := Finset.mem_map.mp hi
  rw [View.write_emb_of_mem f w (Finset.mem_univ x), h, View.read_apply]
  simp

/-! ## Devices -/

/-- The device that holds the block of `x` columns that step `j` of device `c` multiplies. -/
abbrev kb (c : Dev nD) (j : Fin 16) : Dev nD := ⟨(c.val + 16 - j.val) % 16, Nat.mod_lt _ (by decide)⟩
/-- The device that transfer number `r` of device `c` goes to. -/
abbrev nx (c : Dev nD) (r : Fin 15) : Dev nD := ⟨(c.val + r.val + 1) % 16, Nat.mod_lt _ (by decide)⟩
/-- The device that transfer number `r` into device `c` comes from. -/
abbrev pr (c : Dev nD) (r : Fin 15) : Dev nD := ⟨(c.val + 15 - r.val) % 16, Nat.mod_lt _ (by decide)⟩

theorem kb_zero (c : Dev nD) : kb c 0 = c := by
  apply Fin.ext; have := c.isLt; simp only [kb, Fin.val_zero]; have : c.val < 16 := c.isLt; omega
theorem kb_stepOf (c : Dev nD) (r : Fin 15) : kb c (stepOf r) = pr c r := by
  apply Fin.ext; simp only [kb, pr, stepOf]; congr 1; omega
theorem nx_pr (c : Dev nD) (r : Fin 15) : nx (pr c r) r = c := by
  apply Fin.ext; have : c.val < 16 := c.isLt; have := r.isLt; simp only [nx, pr]; omega
theorem pr_nx (c : Dev nD) (r : Fin 15) : pr (nx c r) r = c := by
  apply Fin.ext; have : c.val < 16 := c.isLt; have := r.isLt; simp only [nx, pr]; omega
theorem sigDev_eq (c : Dev nD) (r : Fin 15) : sigDev c r = nx c r := by
  revert c r; decide +kernel
theorem sndDev_eq (c : Dev nD) (r : Fin 15) : sndDev c r = nx c r := by
  revert c r; decide +kernel

/-! ## The strips of the buffers -/

/-- Rows of `w` that are multiplied with the columns of `x` that device `k` holds. -/
abbrev wRows (k : Dev nD) : Finset S4096x8192.Idx := strip S4096x8192 0 256 k.val
/-- Rows of the rounded block that belong to device `k`. -/
abbrev xRows (k : Dev nD) : Finset S4096x256.Idx := strip S4096x256 0 256 k.val
/-- Columns of the gathered rows that device `k` fills. -/
abbrev gCols (k : Dev nD) : Finset S256x4096.Idx := strip S256x4096 1 256 k.val
/-- Slot `q`. -/
abbrev slotSet (q : Fin 4) : Finset S4x256x8192.Idx := strip S4x256x8192 0 1 q.val
/-- Quarter `q` of the columns of the result. -/
abbrev qCols (q : Fin 4) : Finset S256x8192.Idx := strip S256x8192 1 2048 q.val

theorem vW_set (c : Dev nD) (j : Fin 16) : (vW c j).view.set = wRows (kb c j) := by
  show ((View.whole main_arg1).slice _).set = _
  rw [View.set_slice_whole]
  refine unit_set_strip 0 256 _ (by decide) (by rw [k0_off1_eq]; rfl) rfl fun b hb => ?_
  rw [k0_off1_eq]
  match b with
  | 0 => exact absurd rfl hb
  | 1 => exact ⟨rfl, rfl⟩

theorem vSrc_set (c : Dev nD) (r : Fin 15) : (vSrc c r).view.set = xRows (nx c r) := by
  show ((View.whole cc0_scratch0).slice _).set = _
  rw [View.set_slice_whole]
  refine unit_set_strip 0 256 _ (by decide) (by rw [k0_off3_eq]; rfl) rfl fun b hb => ?_
  rw [k0_off3_eq]
  match b with
  | 0 => exact absurd rfl hb
  | 1 => exact ⟨rfl, rfl⟩

theorem vDst_set (c : Dev nD) : (vDst c).view.set = gCols c := by
  show ((View.whole cc0_scratch1).slice _).set = _
  rw [View.set_slice_whole]
  refine unit_set_strip 1 256 _ (by decide) (by rw [k0_off2_eq]; rfl) rfl fun b hb => ?_
  rw [k0_off2_eq]
  match b with
  | 0 => exact ⟨rfl, rfl⟩
  | 1 => exact absurd rfl hb

theorem own_src_set (c : Dev nD) :
    (Rect.unit (s := S4096x256) (k0_off4 c) S256x256.size (k0_off4_inb c)).set = xRows c := by
  refine unit_set_strip 0 256 _ (by decide) (by rw [k0_off4_eq]; rfl) rfl fun b hb => ?_
  rw [k0_off4_eq]
  match b with
  | 0 => exact absurd rfl hb
  | 1 => exact ⟨rfl, rfl⟩

theorem own_dst_set (c : Dev nD) :
    (Rect.unit (s := S256x4096) (k0_off5 c) S256x256.size (k0_off5_inb c)).set = gCols c := by
  refine unit_set_strip 1 256 _ (by decide) (by rw [k0_off5_eq]; rfl) rfl fun b hb => ?_
  rw [k0_off5_eq]
  match b with
  | 0 => exact ⟨rfl, rfl⟩
  | 1 => exact absurd rfl hb

theorem row_set (c : Dev nD) (j : Fin 16) :
    (Rect.unit (s := S256x4096) (k0_off6 c (BitVec.ofNat 32 j.val)) S256x256.size (k0_off6_inb c j)).set = gCols (kb c j) := by
  refine unit_set_strip 1 256 _ (by decide) (by rw [k0_off6_eq]; rfl) rfl fun b hb => ?_
  rw [k0_off6_eq]
  match b with
  | 0 => exact ⟨rfl, rfl⟩
  | 1 => exact absurd rfl hb

theorem slot_rect_set (q : Fin 4) :
    (Rect.unit (s := S4x256x8192) ![q.val, 0, 0] S1x256x8192.size (inbSlot q)).set = slotSet q := by
  refine unit_set_strip 0 1 _ (by decide) (by simp) rfl fun b hb => ?_
  match b with
  | 0 => exact absurd rfl hb
  | 1 => exact ⟨rfl, rfl⟩
  | 2 => exact ⟨rfl, rfl⟩

theorem vSlot_set (q : Fin 4) : (vSlot q).view.set = slotSet q := by
  show (((View.whole cc0_scratch2).slice _).reshape _ _).set = _
  rw [View.set_reshape, View.set_slice_whole]
  exact slot_rect_set q

theorem quarter_rect_set (q : Fin 4) :
    (Rect.unit (s := S256x8192) ![0, 2048 * q.val] S256x2048.size (inbQ q)).set = qCols q := by
  refine unit_set_strip 1 2048 _ (by decide) rfl rfl fun b hb => ?_
  match b with
  | 0 => exact ⟨rfl, rfl⟩
  | 1 => exact absurd rfl hb

theorem vOut_set (q : Fin 4) : (vOut q).view.set = qCols q := by
  show ((View.whole main_v1).slice _).set = _
  rw [View.set_slice_whole]; exact quarter_rect_set q
theorem vAcc_set (q : Fin 4) : (vAcc q).view.set = qCols q := by
  show ((View.whole cc0_scratch3).slice _).set = _
  rw [View.set_slice_whole]; exact quarter_rect_set q

theorem slotQ_set (q : Fin 4) :
    (Rect.unit (s := S4x256x8192) ![3, 0, 2048 * q.val] S1x256x2048.size (inbSlotQ q)).set ⊆ slotSet 3 := by
  intro i hi
  rw [Rect.mem_set_unit] at hi
  have h := hi 0
  rw [mem_strip]
  have h1 : 3 ≤ (i 0).val := h.1
  have h2 : (i 0).val < 4 := (i 0).isLt
  show (i 0).val / 1 = 3
  omega

/-! ## What the buffers hold -/

variable (m : (ℓ : Loc nD τ sig) → Buf (Elt F) ℓ)

/-- The block of `x` on device `c`. -/
def XIN (c : Dev nD) : S4096x256.Idx → Elt F .f32 := m ((c : Thread nD τ).loc main_arg0)
/-- The matrix `w` on device `c`. -/
def WIN (c : Dev nD) : S4096x8192.Idx → Elt F .f32 := m ((c : Thread nD τ).loc main_arg1)
/-- The rounded block of `x` on device `c`. -/
def XBF (c : Dev nD) : S4096x256.Idx → Elt F .bf16 := k0_pay1 (XIN m c)
/-- The gathered rows on device `c`: its rows of every device's block. -/
def XROW (c : Dev nD) : S256x4096.Idx → Elt F .bf16 := fun i =>
  XBF m ⟨(i 1).val / 256, Nat.div_lt_of_lt_mul (i 1).isLt⟩
    (ix2 (n0 := 4096) (n1 := 256) ⟨256 * c.val + (i 0).val, by have : c.val < 16 := c.isLt; have : (i 0).val < 256 := (i 0).isLt; omega⟩
      ⟨(i 1).val % 256, Nat.mod_lt _ (by decide)⟩)
/-- The rows of `w` that step `j` of device `c` loads, in whichever slot. -/
def WBUF (c : Dev nD) (j : Fin 16) : S4x256x8192.Idx → Elt F .f32 := fun i =>
  WIN m c (ix2 (n0 := 4096) (n1 := 8192) ⟨256 * (kb c j).val + (i 1).val, by have : (kb c j).val < 16 := (kb c j).isLt; have : (i 1).val < 256 := (i 1).isLt; omega⟩ (i 2))

/-- The gathered columns that step `j` multiplies. -/
def rowAt (c : Dev nD) (j : Fin 16) : Vec F S256x256 .bf16 :=
  mRow.view.readAt (Elt F) (Rect.unit (s := S256x4096) (k0_off6 c (BitVec.ofNat 32 j.val)) S256x256.size (k0_off6_inb c j)).toLoadRect (XROW m c)
/-- The slot that step `j` multiplies. -/
def slotAt (c : Dev nD) (j : Fin 16) : Vec F S1x256x8192 .f32 :=
  mBuf.view.readAt (Elt F) (Rect.unit (s := S4x256x8192) ![(slotOf j).val, 0, 0] S1x256x8192.size (inbSlot (slotOf j))).toLoadRect (WBUF m c j)
/-- The accumulator after step `n`. -/
def accAt (c : Dev nD) : ℕ → (S256x8192.Idx → Elt F .f32)
  | 0 => k0_pay3 (rowAt m c 0) (slotAt m c 0)
  | n + 1 => k0_pay6 (rowAt m c ⟨(n + 1) % 16, Nat.mod_lt _ (by decide)⟩) (slotAt m c ⟨(n + 1) % 16, Nat.mod_lt _ (by decide)⟩) (accAt c n)
/-- Quarter `q` of the result of device `c`. -/
def outQ (c : Dev nD) (q : Fin 4) : Vec F S256x2048 .f32 :=
  k0_pay21 (rowAt m c 15)
    (mBuf.view.readAt (Elt F) (Rect.unit (s := S4x256x8192) ![3, 0, 2048 * q.val] S1x256x2048.size (inbSlotQ q)).toLoadRect (WBUF m c 15))
    (mAcc.view.readAt (Elt F) (Rect.unit (s := S256x8192) ![0, 2048 * q.val] S256x2048.size (inbQ q)).toLoadRect (accAt m c 14))
/-- The result of device `c`. -/
def OUT (c : Dev nD) : S256x8192.Idx → Elt F .f32 := fun i =>
  outQ m c ⟨(i 1).val / 2048, Nat.div_lt_of_lt_mul (i 1).isLt⟩
    (ix2 (n0 := 256) (n1 := 2048) (i 0) ⟨(i 1).val % 2048, Nat.mod_lt _ (by decide)⟩)

/-! ## What the transfers and stores leave -/

/-- Two indices of a matrix are equal if their coordinates are. -/
theorem idx2_ext {d : Fin 2 → ℕ} {x y : (⟨2, d⟩ : Shape).Idx} (h0 : (x 0).val = (y 0).val) (h1 : (x 1).val = (y 1).val) : x = y :=
  funext fun a => by
    match a with
    | ⟨0, _⟩ => exact Fin.ext h0
    | ⟨1, _⟩ => exact Fin.ext h1

/-- A coordinate of an index placed by a unit-stride rectangle whose offset is known. -/
theorem emb_val (s : Shape) {off : Fin s.rank → ℕ} (size : Fin s.rank → ℕ) {inb} (x : (Rect.unit (s := s) off size inb).shape.Idx) (a : Fin s.rank) {n : ℕ}
    (h : off a = n) : ((Rect.unit (s := s) off size inb).emb x a).val = n + (x a).val :=
  (ValueKit.rect_emb_unit_val _ _ _ _ _).trans (congrArg (· + (x a).val) h)

/-- The gathered rows at an index in the columns of device `k`. -/
theorem XROW_at (c k : Dev nD) (i : S256x4096.Idx) (y : S4096x256.Idx) (hi : (i 1).val = 256 * k.val + (y 1).val)
    (hy : (y 0).val = 256 * c.val + (i 0).val) : XROW m c i = XBF m k y := by
  have h1 : (y 1).val < 256 := (y 1).isLt
  have hk : (⟨(i 1).val / 256, Nat.div_lt_of_lt_mul (i 1).isLt⟩ : Dev nD) = k := by
    apply Fin.ext; show (i 1).val / 256 = k.val; omega
  unfold XROW
  rw [hk]
  congr 1
  refine idx2_ext hy.symm ?_
  show (i 1).val % 256 = (y 1).val
  omega

/-- What send `r` of device `c` moves is what its peer should hold in the columns of `c`. -/
theorem send_read (c : Dev nD) (r : Fin 15) :
    (vSrc c r).view.read (Elt F) (XBF m c) = (vDst c).view.read (Elt F) (XROW m (nx c r)) := by
  funext x
  exact (XROW_at m (nx c r) c ((Rect.unit (s := S256x4096) (k0_off2 c) S256x256.size (k0_off2_inb c)).emb x)
    ((Rect.unit (s := S4096x256) (k0_off3 c (BitVec.ofNat 32 (1 + r.val))) S256x256.size (k0_off3_inb c r)).emb x)
    ((emb_val S256x4096 S256x256.size x 1 (congrFun (k0_off2_eq c) 1)).trans
      (congrArg (256 * c.val + ·) ((emb_val S4096x256 S256x256.size x 1 (congrFun (k0_off3_eq c r) 1)).trans (Nat.zero_add _)).symm))
    ((emb_val S4096x256 S256x256.size x 0 (congrFun (k0_off3_eq c r) 0)).trans
      (congrArg (256 * (nx c r).val + ·) ((emb_val S256x4096 S256x256.size x 0 (congrFun (k0_off2_eq c) 0)).trans (Nat.zero_add _)).symm))).symm

/-- The device's own copy leaves its own columns as they should be. -/
theorem own_read (c : Dev nD) :
    k0_pay2 (mXbf.view.readAt (Elt F) (Rect.unit (s := S4096x256) (k0_off4 c) S256x256.size (k0_off4_inb c)).toLoadRect (XBF m c))
      = (mRow.access (Rect.unit (s := S256x4096) (k0_off5 c) S256x256.size (k0_off5_inb c))).read (Elt F) (XROW m c) := by
  unfold k0_pay2
  rw [shapeCast_self]
  funext x
  exact (XROW_at m c c ((Rect.unit (s := S256x4096) (k0_off5 c) S256x256.size (k0_off5_inb c)).emb x)
    ((Rect.unit (s := S4096x256) (k0_off4 c) S256x256.size (k0_off4_inb c)).emb x)
    ((emb_val S256x4096 S256x256.size x 1 (congrFun (k0_off5_eq c) 1)).trans
      (congrArg (256 * c.val + ·) ((emb_val S4096x256 S256x256.size x 1 (congrFun (k0_off4_eq c) 1)).trans (Nat.zero_add _)).symm))
    ((emb_val S4096x256 S256x256.size x 0 (congrFun (k0_off4_eq c) 0)).trans
      (congrArg (256 * c.val + ·) ((emb_val S256x4096 S256x256.size x 0 (congrFun (k0_off5_eq c) 0)).trans (Nat.zero_add _)).symm))).symm

/-- A slot that holds the rows of step `j`, at an index. -/
theorem WBUF_at (c : Dev nD) (j : Fin 16) (i : S4x256x8192.Idx) (y : S4096x8192.Idx) (h0 : (y 0).val = 256 * (kb c j).val + (i 1).val)
    (h1 : (y 1).val = (i 2).val) : WBUF m c j i = WIN m c y := by
  unfold WBUF
  congr 1
  exact idx2_ext h0.symm h1.symm

/-- What the load of step `j` moves is what the slot should hold. -/
theorem load_read (c : Dev nD) (j : Fin 16) :
    (vW c j).view.read (Elt F) (WIN m c) = (vSlot (slotOf j)).view.read (Elt F) (WBUF m c j) := by
  funext x
  show WIN m c ((Rect.unit (s := S4096x8192) (k0_off1 c (BitVec.ofNat 32 j.val)) S256x8192.size (k0_off1_inb c j)).emb x)
    = WBUF m c j ((Rect.unit (s := S4x256x8192) ![(slotOf j).val, 0, 0] S1x256x8192.size (inbSlot (slotOf j))).emb
        (Shape.reshapeEquiv squeezes_S1x256x8192_S256x8192.numel_eq x))
  have hr : Shape.reshapeEquiv (s := S1x256x8192) (s' := S256x8192) squeezes_S1x256x8192_S256x8192.numel_eq x = Fin.cons ⟨0, Nat.one_pos⟩ x :=
    Shape.reshapeEquiv_cons_one (d := ![256, 8192]) _ x
  rw [hr]
  exact (WBUF_at m c j ((Rect.unit (s := S4x256x8192) ![(slotOf j).val, 0, 0] S1x256x8192.size (inbSlot (slotOf j))).emb (Fin.cons ⟨0, Nat.one_pos⟩ x))
    ((Rect.unit (s := S4096x8192) (k0_off1 c (BitVec.ofNat 32 j.val)) S256x8192.size (k0_off1_inb c j)).emb x)
    ((emb_val S4096x8192 S256x8192.size x 0 (congrFun (k0_off1_eq c j) 0)).trans
      (congrArg (256 * (kb c j).val + ·) ((emb_val S4x256x8192 S1x256x8192.size (Fin.cons ⟨0, Nat.one_pos⟩ x) 1 rfl).trans (Nat.zero_add _)).symm))
    ((emb_val S4096x8192 S256x8192.size x 1 (n := 0) (congrFun (k0_off1_eq c j) 1)).trans (emb_val S4x256x8192 (off := ![(slotOf j).val, 0, 0]) S1x256x8192.size (Fin.cons ⟨0, Nat.one_pos⟩ x) 2 (n := 0) rfl).symm)).symm

/-- The result at an index in quarter `q`. -/
theorem OUT_at (c : Dev nD) (q : Fin 4) (i : S256x8192.Idx) (y : S256x2048.Idx) (h0 : (i 0).val = (y 0).val)
    (h1 : (i 1).val = 2048 * q.val + (y 1).val) : OUT m c i = outQ m c q y := by
  have hy : (y 1).val < 2048 := (y 1).isLt
  have hq : (⟨(i 1).val / 2048, Nat.div_lt_of_lt_mul (i 1).isLt⟩ : Fin 4) = q := by
    apply Fin.ext; show (i 1).val / 2048 = q.val; omega
  unfold OUT
  rw [hq]
  congr 1
  refine idx2_ext h0 ?_
  show (i 1).val % 2048 = (y 1).val
  omega

/-- A quarter of the result, read back at its place. -/
theorem out_read (c : Dev nD) (q : Fin 4) : outQ m c q = (vAcc q).view.read (Elt F) (OUT m c) := by
  funext x
  exact (OUT_at m c q ((Rect.unit (s := S256x8192) ![0, 2048 * q.val] S256x2048.size (inbQ q)).emb x) x
    ((emb_val S256x8192 S256x2048.size x 0 rfl).trans (Nat.zero_add _)) (emb_val S256x8192 S256x2048.size x 1 rfl)).symm

end Cert.KernelIdeal.A2a
end
-- ==== Proof.Protocol.lean ====
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Transfers
public import Idealize.ShloMosaic.Lib.Tactic

/-!
# The exchange between the devices

Three kinds of cells carry the exchange. A device's barrier cell has one duty per peer: the peer's signal hands over
the columns of the peer's gathered rows that this device fills. A receive cell has one duty: the transfer that fills
the columns of its sender. A send cell has one duty: the transfer's own read-out, which gives the source rows back.
-/

@[expose] public section

set_option maxRecDepth 16384

noncomputable section

namespace Cert.KernelIdeal.A2a

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! ## The resource algebra -/

/-- The exchange's copy of the rounds library. -/
abbrev UB : Type := URounds (GSem nD τ sig) (Fin 15)
/-- The staging's copy, the exchange's copy and the local transfers' counters. -/
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's copy in the machine's algebra. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- The local transfers' counters in the machine's algebra. -/
abbrev EC : UEmb Counters (MT nD τ sig Unit (Elt F) ℕ UU ℕ) := countersEmb

abbrev 𝒱₀ : Variants := Variants.none

/-! ## Cells -/

/-- The duty under which the signal number `r` of a device counts at the cell it goes to. -/
abbrev opp (r : Fin 15) : Fin 15 := ⟨14 - r.val, by omega⟩
theorem nx_opp (c : Dev nD) (r : Fin 15) : nx (nx c r) (opp r) = c := by
  apply Fin.ext; have : c.val < 16 := c.isLt; have := r.isLt; simp only [nx, opp]; omega
theorem opp_opp (r : Fin 15) : opp (opp r) = r := by
  apply Fin.ext; have := r.isLt; simp only [opp]; omega

theorem sendSem_val (r : Fin 15) : (sendSem r).val = 2 + r.val := by revert r; decide +kernel
theorem recvSem_val (r : Fin 15) : (recvSem r).val = 18 + r.val := by revert r; decide +kernel
theorem loadSem_val (q : Fin 4) : (loadSem q).val = 33 + q.val := by revert q; decide +kernel
theorem outSem_val (q : Fin 4) : (outSem q).val = 37 + q.val := by revert q; decide +kernel

abbrev barCell (c : Dev nD) : GSem nD τ sig := ((c : Thread nD τ), .reg barSem)
abbrev sendCell (c : Dev nD) (r : Fin 15) : GSem nD τ sig := ((c : Thread nD τ), .dma (sendSem r))
abbrev recvCell (c : Dev nD) (r : Fin 15) : GSem nD τ sig := ((c : Thread nD τ), .dma (recvSem r))

/-- The credit of one transfer between devices. -/
abbrev N : ℕ := (vZero : Memref sig .tc .vmem S256x256 .bf16).view.dmaCredit
theorem N_pos : 0 < N := View.dmaCredit_pos _ (by decide)

/-! ## What a duty hands over -/

variable (m : (ℓ : Loc nD τ sig) → Buf (Elt F) ℓ)

/-- Columns `k` of the gathered rows of device `c`, at contents `f`. -/
def colPts (c k : Dev nD) (f : S256x4096.Idx → Elt F .bf16) : sProp 𝕄 :=
  (c : Thread nD τ).loc cc0_scratch1 ↦[gCols k]{fullShare} f
/-- Rows `k` of the rounded block of device `c`. -/
def srcPts (c k : Dev nD) : sProp 𝕄 :=
  (c : Thread nD τ).loc cc0_scratch0 ↦[xRows k]{fullShare} XBF m c

omit [FloatOps F] in
instance colPts_storable (c k : Dev nD) (f) : BI.Storable (upEmb : UEmb _ 𝕄) (colPts (F := F) c k f) := by unfold colPts; infer_instance
instance srcPts_storable (c k : Dev nD) : BI.Storable (upEmb : UEmb _ 𝕄) (srcPts (F := F) m c k) := by unfold srcPts; infer_instance

/-- What duty `d` of device `c`'s barrier cell hands it: its columns on the peer that signals. -/
def barPay (c : Dev nD) (d : Fin 15) : sProp 𝕄 := iprop(∃ f, colPts (F := F) (nx c d) c f)
/-- What receive `r` hands device `c`: the sender's columns, filled. -/
def recvPay (c : Dev nD) (r : Fin 15) : sProp 𝕄 := colPts c (pr c r) (XROW m c)
/-- What send `r` hands back to device `c`: the rows it read. -/
def sendPay (c : Dev nD) (r : Fin 15) : sProp 𝕄 := srcPts m c (nx c r)

/-- The duties of a semaphore's one round. -/
def dutiesOf : SemLoc sig → Finset (Fin 15)
  | .reg _ => Finset.univ
  | .dma _ => {0}
/-- The units of a duty. -/
def amountAt : SemLoc sig → ℕ
  | .reg _ => 1
  | .dma _ => N
/-- What a duty hands over. -/
def payOf (c : Dev nD) : SemLoc sig → Fin 15 → sProp 𝕄
  | .reg _, d => barPay c d
  | .dma s, _ => if 18 ≤ s.val then recvPay m c ⟨(s.val - 18) % 15, Nat.mod_lt _ (by decide)⟩
      else sendPay m c ⟨(s.val - 2) % 15, Nat.mod_lt _ (by decide)⟩

/-- One round. -/
def Rd : Rounds.Schedule (GSem nD τ sig) (Fin 15) 𝕄 where
  duties g r := if r = 0 then dutiesOf g.2 else ∅
  unitless _ := False
  amount g _ _ := amountAt g.2
  payload g _ d := payOf m g.1.1 g.2 d
  amount_pos g _ _ _ := by
    match g with
    | (_, .reg _) => exact Nat.one_pos
    | (_, .dma _) => exact N_pos

instance Rd_payload_storable (g : GSem nD τ sig) (r : ℕ) (d : Fin 15) : BI.Storable (upEmb : UEmb _ 𝕄) ((Rd (F := F) m).payload g r d) := by
  show BI.Storable upEmb (payOf m g.1.1 g.2 d)
  rcases g with ⟨t, _ | s⟩
  · show BI.Storable upEmb (barPay t.1 d)
    unfold barPay; infer_instance
  · show BI.Storable upEmb (if 18 ≤ s.val then recvPay m t.1 ⟨(s.val - 18) % 15, _⟩ else sendPay m t.1 ⟨(s.val - 2) % 15, _⟩)
    unfold recvPay sendPay
    split <;> infer_instance

section Sched
variable (c : Dev nD) (r : Fin 15)

theorem duties_bar : (Rd (F := F) m).duties (barCell c) 0 = Finset.univ := rfl
theorem duties_send : (Rd (F := F) m).duties (sendCell c r) 0 = {0} := rfl
theorem duties_recv : (Rd (F := F) m).duties (recvCell c r) 0 = {0} := rfl
theorem duties_later (g : GSem nD τ sig) : ∀ r, 1 ≤ r → (Rd (F := F) m).duties g r = ∅ :=
  fun r hr => if_neg (by omega)
theorem amount_bar (d : Fin 15) : (Rd (F := F) m).amount (barCell c) 0 d = 1 := rfl
theorem amount_send (d : Fin 15) : (Rd (F := F) m).amount (sendCell c r) 0 d = N := rfl
theorem amount_recv (d : Fin 15) : (Rd (F := F) m).amount (recvCell c r) 0 d = N := rfl

theorem expect_bar : (Rd (F := F) m).expect (barCell c) 0 = 15 := by
  unfold Schedule.expect Schedule.amountOf
  rw [duties_bar, Finset.sum_congr rfl fun d _ => amount_bar m c d, Finset.sum_const, Finset.card_univ, Fintype.card_fin, smul_eq_mul]
theorem expect_send : (Rd (F := F) m).expect (sendCell c r) 0 = N := by
  unfold Schedule.expect Schedule.amountOf; rw [duties_send, Finset.sum_singleton, amount_send]
theorem expect_recv : (Rd (F := F) m).expect (recvCell c r) 0 = N := by
  unfold Schedule.expect Schedule.amountOf; rw [duties_recv, Finset.sum_singleton, amount_recv]

theorem payload_bar (d : Fin 15) : (Rd (F := F) m).payload (barCell c) 0 d = barPay c d := rfl
theorem payload_send (d : Fin 15) : (Rd (F := F) m).payload (sendCell c r) 0 d = sendPay m c r := by
  show (if 18 ≤ (sendSem r).val then recvPay m c _ else sendPay m c ⟨((sendSem r).val - 2) % 15, _⟩) = _
  have h := sendSem_val r
  rw [if_neg (by omega)]
  congr 1
  apply Fin.ext; show ((sendSem r).val - 2) % 15 = r.val; omega
theorem payload_recv (d : Fin 15) : (Rd (F := F) m).payload (recvCell c r) 0 d = recvPay m c r := by
  show (if 18 ≤ (recvSem r).val then recvPay m c ⟨((recvSem r).val - 18) % 15, _⟩ else sendPay m c _) = _
  have h := recvSem_val r
  rw [if_pos (by omega)]
  congr 1
  apply Fin.ext; show ((recvSem r).val - 18) % 15 = r.val; omega

theorem rest_bar : bigSep ((Rd (F := F) m).duties (barCell c) 0 \ ∅) (fun d => (Rd (F := F) m).payload (barCell c) 0 d)
    = bigSep Finset.univ fun d => barPay (F := F) c d := by
  rw [Finset.sdiff_empty, duties_bar]; rfl
theorem rest_send : bigSep ((Rd (F := F) m).duties (sendCell c r) 0 \ ∅) (fun d => (Rd (F := F) m).payload (sendCell c r) 0 d) = sendPay m c r := by
  rw [Finset.sdiff_empty, duties_send, bigSep_singleton, payload_send]
theorem rest_recv : bigSep ((Rd (F := F) m).duties (recvCell c r) 0 \ ∅) (fun d => (Rd (F := F) m).payload (recvCell c r) 0 d) = recvPay m c r := by
  rw [Finset.sdiff_empty, duties_recv, bigSep_singleton, payload_recv]

end Sched

/-! ## What a device owes; levels -/

/-- The credit that device `c` owes the receive cells of the peers in a list. -/
def owR (c : Dev nD) (l : List (Fin 15)) : CellTallies nD τ sig Unit := (l.map fun r => tallyAt (recvCell (nx c r) r) () N).sum
/-- The units that device `c` owes the barrier cells of the peers in a list. -/
def owB (c : Dev nD) (l : List (Fin 15)) : CellTallies nD τ sig Unit := (l.map fun r => tallyAt (barCell (nx c r)) () 1).sum
/-- What device `c` owes at launch. -/
def O₀ (c : Dev nD) : CellTallies nD τ sig Unit := owR c peers + owB c peers

theorem owR_cons (c : Dev nD) (r : Fin 15) (l : List (Fin 15)) : owR c (r :: l) = owR c l + tallyAt (recvCell (nx c r) r) () N := by
  unfold owR; rw [List.map_cons, List.sum_cons, add_comm]
theorem owB_cons (c : Dev nD) (r : Fin 15) (l : List (Fin 15)) : owB c (r :: l) = owB c l + tallyAt (barCell (nx c r)) () 1 := by
  unfold owB; rw [List.map_cons, List.sum_cons, add_comm]

/-- A cell with a positive entry in a sum of tallies is one of theirs. -/
theorem tally_pos {f : Fin 15 → GSem nD τ sig} {n : ℕ} {l : List (Fin 15)} {g : GSem nD τ sig} {u : Unit}
    (h : 0 < (l.map fun r => tallyAt (f r) () n).sum g u) : ∃ r, g = f r := by
  induction l with
  | nil => exact absurd h (Nat.lt_irrefl 0)
  | cons a l ih =>
    rw [List.map_cons, List.sum_cons, Pi.add_apply, Finsupp.add_apply, tallyAt_apply] at h
    by_cases hg : g = f a ∧ u = ()
    · exact ⟨a, hg.1⟩
    · rw [if_neg hg, Nat.zero_add] at h
      exact ih h

theorem owR_pos {c : Dev nD} {l} {g : GSem nD τ sig} {u : Unit} (h : 0 < owR c l g u) : ∃ r, g = recvCell (nx c r) r := tally_pos h
theorem owB_pos {c : Dev nD} {l} {g : GSem nD τ sig} {u : Unit} (h : 0 < owB c l g u) : ∃ r, g = barCell (nx c r) := tally_pos h

def L (g : GSem nD τ sig) : Finset Unit := if g.1.2 = .tc then {()} else ∅
/-- Barrier cells at 1, receive cells at 2, the others at 0. -/
def lv (g : GSem nD τ sig) (_ : Unit) : ℕ := match g.2 with
  | .reg _ => 1
  | .dma s => if 18 ≤ s.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (r : Fin 15) : lv (recvCell c r) () = 2 := by
  show (if 18 ≤ (recvSem r).val then 2 else 0) = 2
  rw [if_pos (by rw [recvSem_val]; omega)]

/-- A staging wait may happen while the device owes everything, or nothing. -/
theorem mayWait_stage (c : Dev nD) (q : DmaSem sig) (hq : q.val < 18) (O : CellTallies nD τ sig Unit) (hO : O = O₀ c ∨ O = 0) :
    (levAts L lv : sProp 𝕄) ⊢ MayWait (c : Thread nD τ) (.dma q) () O := by
  rcases hO with rfl | rfl
  · have hpos : ∀ g u, 0 < O₀ c g u → (∃ r, g = recvCell (nx c r) r) ∨ ∃ r, g = barCell (nx c r) := by
      intro g u h
      unfold O₀ at h
      rw [Pi.add_apply, Finsupp.add_apply] at h
      rcases Nat.eq_zero_or_pos (owR c peers g u) with h0 | h0
      · rw [h0, Nat.zero_add] at h; exact .inr (owB_pos h)
      · exact .inl (owR_pos h0)
    refine MayOwe.of_cut (L := L) (lev := lv) 0 (fun p hp => by rw [Finset.mem_singleton.mp hp, L_tc]; exact Finset.mem_singleton_self _)
      (fun g u hg => by rcases hpos g u hg with ⟨r, rfl⟩ | ⟨r, rfl⟩ <;> exact Finset.mem_singleton_self _)
      (fun p hp => by
        rw [Finset.mem_singleton.mp hp]
        show (if 18 ≤ q.val then 2 else 0) ≤ 0
        rw [if_neg (by omega)])
      (fun g u hg => by
        rcases hpos g u hg with ⟨r, rfl⟩ | ⟨r, rfl⟩
        · rw [lv_recv]; decide
        · exact Nat.one_pos)
  · rw [MayWait_zero]; iintro -; iempintro

/-- At its barrier wait a device owes receive credits only. -/
theorem mayWait_bar (c : Dev nD) : (levAts L lv : sProp 𝕄) ⊢ MayWait (c : Thread nD τ) (.reg barSem) () (owR c peers) :=
  MayOwe.of_cut (L := L) (lev := lv) 1 (fun p hp => by rw [Finset.mem_singleton.mp hp, L_tc]; exact Finset.mem_singleton_self _)
    (fun g u hg => by obtain ⟨r, rfl⟩ := owR_pos hg; exact Finset.mem_singleton_self _)
    (fun p hp => by rw [Finset.mem_singleton.mp hp]; exact Nat.le_refl 1)
    (fun g u hg => by obtain ⟨r, rfl⟩ := owR_pos hg; rw [lv_recv]; decide)

/-! ## Records, tokens, positions -/

/-- The cells of one device: its barrier cell, its send cells and its receive cells. -/
abbrev csem : Option (Bool × Fin 15) → SemLoc sig
  | none => .reg barSem
  | some (false, r) => .dma (sendSem r)
  | some (true, r) => .dma (recvSem r)
abbrev kcell (ck : Dev nD × Option (Bool × Fin 15)) : GSem nD τ sig := ((ck.1 : Thread nD τ), csem ck.2)

/-- Every cell's invariant, and that every cell has reached its round. -/
def records (K : Dev nD × Option (Bool × Fin 15) → ℕ) : sProp 𝕄 :=
  iprop((bigSep Finset.univ fun ck => cellInv ER (Rd m) (K ck) (kcell ck)) ∗ bigSep Finset.univ fun ck => reached ER (kcell ck) 0)

instance records_persistent (K : Dev nD × Option (Bool × Fin 15) → ℕ) : BI.Persistent (records m K) := by unfold records; infer_instance

theorem inv_at (K : Dev nD × Option (Bool × Fin 15) → ℕ) (ck : Dev nD × Option (Bool × Fin 15)) :
    records m K ⊢ cellInv ER (Rd m) (K ck) (kcell ck) := by
  have h : (bigSep Finset.univ fun ck => (cellInv ER (Rd m) (K ck) (kcell ck) : sProp 𝕄)) ⊢ cellInv ER (Rd m) (K ck) (kcell ck) :=
    bigSep_elim (Finset.mem_univ ck)
  unfold records
  iintro ⟨H, -⟩
  iapply h $$ H
theorem reached_at (K : Dev nD × Option (Bool × Fin 15) → ℕ) (ck : Dev nD × Option (Bool × Fin 15)) :
    records m K ⊢ reached ER (kcell ck) 0 := by
  have h : (bigSep Finset.univ fun ck => (reached ER (kcell ck) 0 : sProp 𝕄)) ⊢ reached ER (kcell ck) 0 := bigSep_elim (Finset.mem_univ ck)
  unfold records
  iintro ⟨-, H⟩
  iapply h $$ H

/-! ## Running a statement -/

/-- The program `p` on device `c` runs to `Q`. -/
abbrev run {α : Type} (c : Dev nD) (p : P F α) (Q : α → sProp 𝕄) : sProp 𝕄 :=
  wp frame (wpE (defs₀ (F := F)) 𝒱₀ (c : Thread nD τ) none) Set.univ p Q

/-- A statement that is known to run, at the head of a program. -/
theorem run_bind {α β : Type} {c : Dev nD} {p : P F α} {k : α → P F β} {A : sProp 𝕄} {B : α → sProp 𝕄} {Q : β → sProp 𝕄}
    (h : A ⊢ run c p B) : A ⊢ iprop((∀ v, B v -∗ run c (k v) Q) -∗ run c (p >>= k) Q) := by
  iintro HA Hk
  rw [run, wp_bind_eq]
  iapply (wp_wand_r)
  isplitl [HA]
  · iapply h $$ HA
  iintro %v HB
  iapply Hk $$ %v HB

/-- A loop runs if each of its turns does, from an invariant at its number and its own part. -/
theorem run_loop {α : Type} {c : Dev nD} (f : α → P F PUnit) (J : ℕ → sProp 𝕄) (pre post : α → sProp 𝕄) (l : List α) (n : ℕ)
    (h : ∀ k (hk : k < l.length), iprop(J (n + k) ∗ pre l[k]) ⊢ run c (f l[k]) fun _ => iprop(J (n + k + 1) ∗ post l[k])) :
    iprop(J n ∗ bigSepL l pre) ⊢ run c (loop f l) fun _ => iprop(J (n + l.length) ∗ bigSepL l post) := by
  induction l generalizing n with
  | nil =>
    show _ ⊢ wp frame (wpE (defs₀ (F := F)) 𝒱₀ (c : Thread nD τ) none) Set.univ (.ret PUnit.unit) _
    rw [wp_ret]
    iintro H
    imodintro
    iexact H
  | cons a l ih =>
    simp only [loop, bigSepL_cons']
    iintro ⟨HJ, Ha, Hl⟩
    have h0 : iprop(J n ∗ pre a) ⊢ run c (f a) fun _ => iprop(J (n + 1) ∗ post a) := h 0 (Nat.succ_pos _)
    iapply (run_bind (k := fun _ => loop f l) h0) $$ [HJ Ha]
    · isplitl [HJ]
      · iexact HJ
      · iexact Ha
    iintro %_ ⟨HJ, Ha⟩
    have h1 := ih (n + 1) (fun k hk => by
      have := h (k + 1) (Nat.succ_lt_succ hk)
      rw [List.getElem_cons_succ] at this
      have e : n + 1 + k = n + (k + 1) := by omega
      rw [e]; exact this)
    iapply (wp_wand_r)
    isplitl [HJ Hl]
    · iapply h1
      isplitl [HJ]
      · iexact HJ
      · iexact Hl
    iintro %_ ⟨HJ, Hl⟩
    have e : n + 1 + l.length = n + (a :: l).length := by rw [List.length_cons]; omega
    rw [e]
    isplitl [HJ]; · iexact HJ
    isplitl [Ha]
    · iexact Ha
    · iexact Hl

end Cert.KernelIdeal.A2a
end
-- ==== Proof.Steps.lean ====
module

public import proofs.«01_k».proof.Proof.Protocol

/-!
# What each statement of the body does

One rule per statement, from the parts of the buffers it uses to the parts it leaves.
-/

@[expose] public section

set_option maxRecDepth 16384

noncomputable section

namespace Cert.KernelIdeal.A2a

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-- Rows `k` of `w` on device `c`. -/
def wPts (c k : Dev nD) : sProp 𝕄 := (c : Thread nD τ).loc main_arg1 ↦[wRows k]{fullShare} WIN m c
/-- Slot `q` of device `c`, at contents `f`. -/
def slotPts (c : Dev nD) (q : Fin 4) (f : S4x256x8192.Idx → Elt F .f32) : sProp 𝕄 :=
  (c : Thread nD τ).loc cc0_scratch2 ↦[slotSet q]{fullShare} f
/-- The accumulator of device `c`, at contents `f`. -/
def accPts (c : Dev nD) (f : S256x8192.Idx → Elt F .f32) : sProp 𝕄 := (c : Thread nD τ).loc cc0_scratch3 ↦{fullShare} f
/-- Quarter `q` of the accumulator of device `c`, at contents `f`. -/
def accQ (c : Dev nD) (q : Fin 4) (f : S256x8192.Idx → Elt F .f32) : sProp 𝕄 := (c : Thread nD τ).loc cc0_scratch3 ↦[qCols q]{fullShare} f
/-- Quarter `q` of the result of device `c`, at contents `f`. -/
def resQ (c : Dev nD) (q : Fin 4) (f : S256x8192.Idx → Elt F .f32) : sProp 𝕄 := (c : Thread nD τ).loc main_v1 ↦[qCols q]{fullShare} f

/-- Device `c` owes nothing. -/
def owes0 (c : Dev nD) : sProp 𝕄 := iprop(∃ W, owes (c : Thread nD τ) 0 W)
/-- A counter of device `c` at zero. -/
abbrev zero (c : Dev nD) (s : DmaSem sig) : sProp 𝕄 := semVal ((c : Thread nD τ), .dma s) 0

/-- The credit of one load of `w`. -/
abbrev NW : ℕ := (vSlot 0).view.dmaCredit
theorem NW_pos : 0 < NW := View.dmaCredit_pos _ (by decide)
/-- The credit of one write of a quarter. -/
abbrev NQ : ℕ := (vOut 0).view.dmaCredit
theorem NQ_pos : 0 < NQ := View.dmaCredit_pos _ (by decide)

theorem whole_setOn (b : Ref sig .tc) (M : Finset b.ty.Idx) : (View.whole b).setOn M = M := by
  unfold View.setOn
  exact Finset.map_refl

/-! ## Loads of `w` -/

/-- The load of step `j` is on its way. -/
def inFlight (c : Dev nD) (j : Fin 16) : sProp 𝕄 :=
  Transfers.Flight EC (c : Thread nD τ) (.dma (loadSem (slotOf j))) () NW iprop(slotPts c (slotOf j) (WBUF m c j) ∗ wPts m c (kb c j))
/-- Slot `q` is free. -/
def slotFree (c : Dev nD) (q : Fin 4) : sProp 𝕄 := iprop((∃ f, slotPts c q f) ∗ zero (F := F) c (loadSem q))

/-- What the load leaves: the slot filled, the rows of `w` as they were. -/
theorem load_land (c : Dev nD) (j : Fin 16) (f : Buf (Elt F) ((vSlot (slotOf j)).view.loc (c : Thread nD τ))) :
    iprop(((vSlot (slotOf j)).view.loc (c : Thread nD τ) ↦[(vSlot (slotOf j)).view.set]{fullShare}
        ((vSlot (slotOf j)).view.write (Elt F) f ((vW c j).view.read (Elt F) (WIN m c)) Finset.univ))
      ∗ ((vW c j).view.loc (c : Thread nD τ) ↦[(vW c j).view.set]{fullShare} WIN m c))
    ⊢ (iprop(slotPts c (slotOf j) (WBUF m c j) ∗ wPts m c (kb c j)) : sProp 𝕄) := by
  unfold slotPts wPts
  rw [← vW_set c j, ← vSlot_set]
  exact sep_mono_left (Entails.of_eq (pointsTo_congr (write_read_on (vSlot (slotOf j)).view (Elt F) f (WBUF m c j) _ (load_read m c j))))

/-- A local transfer that moves elements as they are. -/
theorem dma_at (c : Dev nD) {sp sp' : Space} {s : Shape} {e : EltTy} {src : Memref sig .tc sp s e} {dst : Memref sig .tc sp' s e} {sm : SemLoc sig}
    {hsrc : src.view.WordExact} {hdst : dst.view.WordExact} {hsem : DmaTarget.Typed (nD := nD) (τ := τ) (p := .tc) sp sm (.here dst)}
    {k : PUnit → P F PUnit} {Q : PUnit → sProp 𝕄} {fs : Buf (Elt F) (src.view.loc (c : Thread nD τ))} {fd : Buf (Elt F) (dst.view.loc (c : Thread nD τ))}
    (n : ℕ) (hN : dst.view.amount sm = n) (hN0 : 0 < n) :
    iprop((src.view.loc (c : Thread nD τ) ↦[src.view.set]{fullShare} fs) ∗ (dst.view.loc (c : Thread nD τ) ↦[dst.view.set]{fullShare} fd) ∗ semVal ((c : Thread nD τ), sm) 0)
      ⊢ iprop((Transfers.Flight EC (c : Thread nD τ) sm () n iprop((dst.view.loc (c : Thread nD τ) ↦[dst.view.set]{fullShare} (dst.view.write (Elt F) fd (src.view.read (Elt F) fs) Finset.univ))
                                    ∗ (src.view.loc (c : Thread nD τ) ↦[src.view.set]{fullShare} fs)) -∗ run c (k ⟨⟩) Q)
          -∗ run c (.op (.enqueueDma src (.here dst) sm hsrc hdst hsem) k) Q) :=
  Transfers.wp_dmaLocal EC 𝒱₀ (c : Thread nD τ) none (via := .same) () n hN hN0 (Finset.Subset.refl _)

theorem loadW_run (c : Dev nD) (j : Fin 16) :
    iprop(wPts m c (kb c j) ∗ slotFree c (slotOf j)) ⊢ run c (loadW c j) fun _ => inFlight m c j := by
  unfold loadW slotFree
  simp only [Prog.lift]
  iintro ⟨Hw, ⟨%f, Hs⟩, Hz⟩
  unfold wPts slotPts
  rw [← vW_set c j, ← vSlot_set]
  iapply (dma_at c (src := vW c j) (dst := vSlot (slotOf j)) NW rfl NW_pos) $$ [Hw Hs Hz]
  · isplitl [Hw]; · iexact Hw
    isplitl [Hs]; · iexact Hs
    iexact Hz
  iintro H
  simp only [run]
  rw [wp_ret]
  imodintro
  unfold inFlight
  iapply (Transfers.Flight_mono EC (c : Thread nD τ) (load_land m c j f)) $$ H

theorem waitW_run (c : Dev nD) (j : Fin 16) :
    iprop(inFlight m c j ∗ owes0 c) ⊢ run c (waitW c j) fun _ =>
      iprop(slotPts c (slotOf j) (WBUF m c j) ∗ wPts m c (kb c j) ∗ zero c (loadSem (slotOf j)) ∗ owes0 c) := by
  unfold waitW inFlight owes0
  simp only [run, Prog.lift]
  iintro ⟨Hf, ⟨%W, HO⟩⟩
  iapply (Transfers.wp_waitLocal EC 𝒱₀ (c : Thread nD τ) none (srcw := vW c j) (dstw := vSlot (slotOf j)) (hsrc := View.wordExact_bits rfl) (hdst := (View.wordExact_bits rfl).reshape _ _) () (N := NW) rfl) $$ [Hf HO]
  · isplitl [Hf]; · iexact Hf
    iexact HO
  iintro ⟨⟨Hs, Hw⟩, Hz, HO⟩
  rw [wp_ret]
  imodintro
  isplitl [Hs]; · iexact Hs
  isplitl [Hw]; · iexact Hw
  isplitl [Hz]; · iexact Hz
  iexists _
  iexact HO

/-! ## The rounded block -/

/-- The rounded block of device `c`, at contents `f`. -/
def xbfPts (c : Dev nD) (f : S4096x256.Idx → Elt F .bf16) : sProp 𝕄 := (c : Thread nD τ).loc cc0_scratch0 ↦{fullShare} f
/-- The staged block of device `c`. -/
def stgPts (c : Dev nD) : sProp 𝕄 := (c : Thread nD τ).loc cc0_stg0_0 ↦{fullShare} XIN m c

theorem castX_run (c : Dev nD) : iprop(stgPts m c ∗ ∃ f, xbfPts c f) ⊢ run c castX fun _ => iprop(stgPts m c ∗ xbfPts c (XBF m c)) := by
  have hz : (![0, 0] : Fin 2 → ℕ) = fun _ => 0 := funext fun a => by fin_cases a <;> rfl
  unfold castX stgPts xbfPts
  simp only [run, Prog.lift, Prog.bind_op, Prog.bind_ret]
  iintro ⟨Hx, ⟨%f, Hs⟩⟩
  iapply (wp_load 𝒱₀ (c : Thread nD τ) none Set.univ (m := mX) (Finset.subset_univ _)) $$ Hx; iintro Hx
  iapply (wp_load 𝒱₀ (c : Thread nD τ) none Set.univ (m := mXbf) (Finset.subset_univ _)) $$ Hs; iintro Hs
  iapply (wp_store 𝒱₀ (c : Thread nD τ) none Set.univ (m := mXbf) (r := Rect.unit (s := S4096x256) ![0, 0] S4096x256.size inb_S4096x256_S4096x256_0_0) (Mk := Finset.univ) (Finset.subset_univ _)) $$ Hs; iintro Hs
  rw [wp_ret]
  imodintro
  isplitl [Hx]; · iexact Hx
  have e : (mXbf.access (Rect.unit (s := S4096x256) ![0, 0] S4096x256.size inb_S4096x256_S4096x256_0_0)).write (Elt F) f
      (k0_pay1 (mX.view.readAt (Elt F) (Rect.unit (s := S4096x256) ![0, 0] S4096x256.size inb_S4096x256_S4096x256_0_0).toLoadRect (XIN m c))) Finset.univ
      = XBF m c :=
    (Memref.write_access_unit_zero_univ (Elt F) cc0_scratch0 hz _ f _).trans (congrArg k0_pay1 (Memref.readAt_unit_zero (Elt F) cc0_stg0_0 hz _ (XIN m c)))
  rw [← e]
  iexact Hs

/-! ## Signals, sends -/

variable (K : Dev nD × Option (Bool × Fin 15) → ℕ)

/-- What signal `r` of device `c` needs: the duty it pays and the peer's columns of its gathered rows. -/
def sigNeed (c : Dev nD) (r : Fin 15) : sProp 𝕄 :=
  iprop(dutyTok ER (barCell (nx c r)) 0 (opp r) ∗ ∃ f, colPts (F := F) c (nx c r) f)

theorem signal_run (c : Dev nD) (r : Fin 15) (O : CellTallies nD τ sig Unit) :
    iprop((records m K ∗ ∃ W, owes (c : Thread nD τ) (O + tallyAt (barCell (nx c r)) () 1) W) ∗ sigNeed c r)
      ⊢ run c (signal c r) fun _ => iprop((records m K ∗ ∃ W, owes (c : Thread nD τ) O W) ∗ emp) := by
  unfold signal sigNeed
  rw [sigDev_eq]
  simp only [run, semSignalWord, Prog.lift, Prog.bind_op, Prog.bind_ret]
  iintro ⟨⟨#HR, ⟨%W, HO⟩⟩, Ht, ⟨%f, Hc⟩⟩
  iapply (Rounds.wp_signal 𝒱₀ ER (Rd m) (c : Thread nD τ) none (dst := (nx c r : Thread nD τ)) (κ := K (nx c r, none)) (r := 0)
      (d := opp r) (by rw [duties_bar]; exact Finset.mem_univ _) ((amount_bar m (nx c r) (opp r)).trans (by decide)) () O rfl)
    $$ [HO Ht Hc]
  · isplitr; · iapply (inv_at m K (nx c r, none)); iexact HR
    isplitl [HO]; · iexact HO
    isplitl [Ht]; · iexact Ht
    isplitl [Hc]
    · rw [payload_bar]; unfold barPay; rw [nx_opp]
      iexists f; iexact Hc
    · iapply (reached_at m K (nx c r, none)); iexact HR
  iintro HO
  try (rw [wp_ret]; imodintro)
  isplitl [HO]
  · isplitr; · iexact HR
    iexists _; iexact HO
  · iempintro

/-- What the barrier wait hands over: every peer's columns of this device. -/
theorem barrier_run (c : Dev nD) :
    iprop(records m K ∗ levAts L lv ∗ cred (tallyAt (barCell c) () 15) ∗ (∃ W, owes (c : Thread nD τ) (owR c peers) W) ∗ atPos ER (barCell c) 0 ∅ 0)
      ⊢ run c (semWaitWord barSem 15#32) fun _ => iprop((∃ W, owes (c : Thread nD τ) (owR c peers) W) ∗ atPos ER (barCell c) (0 + 1) ∅ 0
          ∗ bigSep Finset.univ fun d => barPay (F := F) c d) := by
  simp only [run, semWaitWord, Prog.lift, Prog.bind_op, Prog.bind_ret]
  iintro ⟨#HR, #Hlev, HcB, ⟨%W, HO⟩, HatB⟩
  iapply (Rounds.wp_wait_rest_token 𝒱₀ ER (Rd m) (c : Thread nD τ) none (κ := K (c, none))
      (wpE_semWait_eq 𝒱₀ (c : Thread nD τ) none Set.univ) (Set.mem_univ _) () (O := owR c peers) (W := W) (R := 0) (m := 0) (T := ∅)
      (by rw [expect_bar]; decide)) $$ [HcB HO HatB]
  · isplitr; · iapply (inv_at m K (c, none)); iexact HR
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  try (rw [wp_ret]; imodintro)
  isplitl [HO]; · iexists _; iexact HO
  isplitl [HatB]; · iexact HatB
  iexact Hp

/-- What send `r` of device `c` needs: the rows it reads, the columns it fills, and the two duties it pays. -/
def sndNeed (c : Dev nD) (r : Fin 15) : sProp 𝕄 :=
  iprop(srcPts m c (nx c r) ∗ barPay (F := F) c r ∗ dutyTok ER (sendCell c r) 0 0 ∗ dutyTok ER (recvCell (nx c r) r) 0 0)

theorem send_at (c n : Dev nD) (r : Fin 15) (hn : n = nx c r) (O : CellTallies nD τ sig Unit) (f : S256x4096.Idx → Elt F .bf16) (W : Waits sig Unit)
    {hsc : (vDst c).view.ref.isScScratch = false} {hsrc : (vSrc c r).view.WordExact} {hdst : (vDst c).view.WordExact}
    {hsem : DmaTarget.Typed .vmem (.dma (recvSem r)) (.remote (Dev.tc n : Thread nD τ) (vDst c) (.dma (sendSem r)) hsc)}
    {k : PUnit → P F PUnit} {Q : PUnit → sProp 𝕄} :
    iprop(records m K ∗ srcPts m c (nx c r) ∗ colPts (nx c r) c f ∗ owes (c : Thread nD τ) (O + tallyAt (recvCell (nx c r) r) () N) W
        ∗ dutyTok ER (sendCell c r) 0 0 ∗ dutyTok ER (recvCell (nx c r) r) 0 0)
      ⊢ iprop(((cred (tallyAt (sendCell c r) () N) ∗ owes (c : Thread nD τ) O W) -∗ run c (k ⟨⟩) Q)
          -∗ run c (.op (.enqueueDma (vSrc c r) (.remote (Dev.tc n : Thread nD τ) (vDst c) (.dma (sendSem r)) hsc) (.dma (recvSem r)) hsrc hdst hsem) k) Q) := by
  subst hn
  unfold srcPts colPts
  simp only [run]
  rw [← vSrc_set c r, ← vDst_set c]
  iintro ⟨#HR, Hs, Hd, HO, HtS, HtR⟩
  iapply (Rounds.wp_send_pointsTo 𝒱₀ ER (Rd m) (c : Thread nD τ) none (c' := (nx c r : Thread nD τ)) (src := vSrc c r) (dst := vDst c)
    (κ₁ := K (c, some (false, r))) (κ₂ := K (nx c r, some (true, r)))
    (r₁ := 0) (r₂ := 0) (d₁ := 0) (d₂ := 0) (fs := XBF m c) (fd := f)
    (by rw [duties_send]; exact Finset.mem_singleton_self _) (by rw [duties_recv]; exact Finset.mem_singleton_self _)
    () () N rfl (amount_send m c r 0) (amount_recv m (nx c r) r 0) O rfl (W := W)
    (by rw [payload_send]; unfold sendPay srcPts; rw [← vSrc_set c r])
    (by
      rw [payload_recv]; unfold recvPay colPts; rw [pr_nx, ← vDst_set c]
      exact Entails.of_eq (pointsTo_congr (write_read_on (vDst c).view (Elt F) f (XROW m (nx c r)) _ (send_read m c r))))) $$ [Hs Hd HO HtS HtR]
  isplitr; · iapply (inv_at m K (c, some (false, r))); iexact HR
  isplitr; · iapply (inv_at m K (nx c r, some (true, r))); iexact HR
  isplitl [Hs]; · iexact Hs
  isplitl [Hd]; · iexact Hd
  isplitl [HO]; · iexact HO
  isplitl [HtS]; · iexact HtS
  isplitr; · iapply (reached_at m K (c, some (false, r))); iexact HR
  isplitl [HtR]; · iexact HtR
  iapply (reached_at m K (nx c r, some (true, r))); iexact HR

theorem send_run (c : Dev nD) (r : Fin 15) (O : CellTallies nD τ sig Unit) :
    iprop((records m K ∗ ∃ W, owes (c : Thread nD τ) (O + tallyAt (recvCell (nx c r) r) () N) W) ∗ sndNeed m c r)
      ⊢ run c (send c r) fun _ => iprop((records m K ∗ ∃ W, owes (c : Thread nD τ) O W) ∗ cred (tallyAt (sendCell c r) () N)) := by
  unfold send sndNeed barPay
  simp only [Prog.lift]
  iintro ⟨⟨#HR, ⟨%W, HO⟩⟩, Hs, ⟨%f, Hd⟩, HtS, HtR⟩
  iapply (send_at m K c (sndDev c r) r (sndDev_eq c r) O f W) $$ [Hs Hd HO HtS HtR]
  · isplitr; · iexact HR
    isplitl [Hs]; · iexact Hs
    isplitl [Hd]; · iexact Hd
    isplitl [HO]; · iexact HO
    isplitl [HtS] <;> iassumption
  iintro ⟨Hc, HO⟩
  simp only [run]
  rw [wp_ret]
  imodintro
  isplitl [HO]
  · isplitr; · iexact HR
    iexists _; iexact HO
  · iexact Hc

/-! ## The device's own rows -/

theorem ownCopy_run (c : Dev nD) :
    iprop(srcPts m c c ∗ ∃ f, colPts (F := F) c c f) ⊢ run c (ownCopy c) fun _ => iprop(srcPts m c c ∗ colPts c c (XROW m c)) := by
  unfold ownCopy srcPts colPts
  simp only [run, Prog.lift, Prog.bind_op, Prog.bind_ret]
  iintro ⟨Hx, ⟨%f, Hs⟩⟩
  iapply (wp_load 𝒱₀ (c : Thread nD τ) none Set.univ (m := mXbf) (S := xRows c)
    ((whole_setOn cc0_scratch0 _).trans (own_src_set c)).subset) $$ Hx; iintro Hx
  iapply (wp_load 𝒱₀ (c : Thread nD τ) none Set.univ (m := mRow) (S := gCols c)
    ((whole_setOn cc0_scratch1 _).trans (own_dst_set c)).subset) $$ Hs; iintro Hs
  have hset : (mRow.access (Rect.unit (s := S256x4096) (k0_off5 c) S256x256.size (k0_off5_inb c))).set = gCols c :=
    (View.set_slice_whole cc0_scratch1 _).trans (own_dst_set c)
  iapply (wp_store 𝒱₀ (c : Thread nD τ) none Set.univ (m := mRow) (r := Rect.unit (s := S256x4096) (k0_off5 c) S256x256.size (k0_off5_inb c)) (Mk := Finset.univ) (S := gCols c) hset.subset) $$ Hs; iintro Hs
  rw [wp_ret]
  imodintro
  isplitl [Hx]; · iexact Hx
  rw [← pointsTo_congr (ℓ := (c : Thread nD τ).loc cc0_scratch1) (I := gCols c) (q := fullShare) (fun i hi => write_read_on (mRow.access (Rect.unit (s := S256x4096) (k0_off5 c) S256x256.size (k0_off5_inb c))) (Elt F) f (XROW m c) _ (own_read m c) i (hset ▸ hi))]
  iexact Hs

/-! ## Products -/

theorem readRow_run (c : Dev nD) (j : Fin 16) :
    colPts c (kb c j) (XROW m c) ⊢ run c (readRow c j) fun v => iprop(⌜v = rowAt m c j⌝ ∗ colPts c (kb c j) (XROW m c)) := by
  unfold readRow colPts
  simp only [run, Prog.lift]
  iintro H
  iapply (wp_load 𝒱₀ (c : Thread nD τ) none Set.univ (m := mRow) (S := gCols (kb c j))
    ((whole_setOn cc0_scratch1 _).trans (row_set c j)).subset) $$ H; iintro H
  rw [wp_ret]
  imodintro
  isplitr; · ipureintro; rfl
  iexact H

theorem readSlot_run (c : Dev nD) (j : Fin 16) :
    slotPts c (slotOf j) (WBUF m c j) ⊢ run c (readSlot (slotOf j)) fun v => iprop(⌜v = slotAt m c j⌝ ∗ slotPts c (slotOf j) (WBUF m c j)) := by
  unfold readSlot slotPts
  simp only [run, Prog.lift]
  iintro H
  iapply (wp_load 𝒱₀ (c : Thread nD τ) none Set.univ (m := mBuf) (S := slotSet (slotOf j))
    ((whole_setOn cc0_scratch2 _).trans (slot_rect_set (slotOf j))).subset) $$ H; iintro H
  rw [wp_ret]
  imodintro
  isplitr; · ipureintro; rfl
  iexact H

theorem readAcc_run (c : Dev nD) (f : S256x8192.Idx → Elt F .f32) :
    accPts c f ⊢ run c readAcc fun v => iprop(⌜v = f⌝ ∗ accPts c f) := by
  have hz : (![0, 0] : Fin 2 → ℕ) = fun _ => 0 := funext fun a => by fin_cases a <;> rfl
  unfold readAcc accPts
  simp only [run, Prog.lift]
  iintro H
  iapply (wp_load 𝒱₀ (c : Thread nD τ) none Set.univ (m := mAcc) (Finset.subset_univ _)) $$ H; iintro H
  rw [wp_ret]
  imodintro
  isplitr
  · ipureintro
    exact Memref.readAt_unit_zero (Elt F) cc0_scratch3 hz _ f
  iexact H

theorem writeAcc_run (c : Dev nD) (f v : S256x8192.Idx → Elt F .f32) :
    accPts c f ⊢ run c (writeAcc v) fun _ => accPts c v := by
  have hz : (![0, 0] : Fin 2 → ℕ) = fun _ => 0 := funext fun a => by fin_cases a <;> rfl
  unfold writeAcc accPts
  simp only [run, Prog.lift]
  iintro H
  iapply (wp_store 𝒱₀ (c : Thread nD τ) none Set.univ (m := mAcc) (r := Rect.unit (s := S256x8192) ![0, 0] S256x8192.size inb_S256x8192_S256x8192_0_0) (Mk := Finset.univ) (Finset.subset_univ _)) $$ H; iintro H
  rw [wp_ret]
  imodintro
  have e : (mAcc.access (Rect.unit (s := S256x8192) ![0, 0] S256x8192.size inb_S256x8192_S256x8192_0_0)).write (Elt F) f v Finset.univ = v :=
    Memref.write_access_unit_zero_univ (Elt F) cc0_scratch3 hz _ f v
  rw [e]
  iexact H

/-! ## Receives -/

/-- What the wait for receive `r` needs: its credit and its place before the round. -/
def rcvNeed (c : Dev nD) (r : Fin 15) : sProp 𝕄 :=
  iprop(cred (tallyAt (recvCell c r) () N) ∗ atPos ER (recvCell c r) 0 ∅ 0)

theorem waitRecv_run (c : Dev nD) (r : Fin 15) :
    iprop((records m K ∗ owes0 c) ∗ rcvNeed (F := F) c r) ⊢ run c (waitRecv c r) fun _ =>
      iprop(owes0 c ∗ colPts c (kb c (stepOf r)) (XROW m c) ∗ zero (F := F) c (recvSem r)) := by
  unfold waitRecv owes0 rcvNeed
  simp only [run, Prog.lift]
  iintro ⟨⟨#HR, ⟨%W, HO⟩⟩, Hc, Hat⟩
  iapply (Rounds.wp_wait_rest_token 𝒱₀ ER (Rd m) (c : Thread nD τ) none (κ := K (c, some (true, r)))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iapply (inv_at m K (c, some (true, r))); iexact HR
    isplitl [Hc]; · iexact Hc
    isplitl [HO]; · iexact HO
    isplitr; · rw [MayWait_zero]; iempintro
    iexact Hat
  iintro ⟨HO, Hat, -, Hpay⟩
  ihave Hp := (Entails.of_eq (rest_recv m c r)) $$ Hpay
  imod (Rounds.cell_close ER (Rd m) (Set.mem_univ (K (c, some (true, r)))) (fun h => h) (R := 0 + 1) (duties_later m (recvCell c r))) $$ [Hat] with Hz
  · isplitr; · iapply (inv_at m K (c, some (true, r))); iexact HR
    iexact Hat
  rw [wp_ret]
  imodintro
  isplitl [HO]; · iexists _; iexact HO
  isplitl [Hp]
  · unfold recvPay; rw [kb_stepOf]; iexact Hp
  · iexact Hz

/-- What the wait for send `r` needs. -/
def sentNeed (c : Dev nD) (r : Fin 15) : sProp 𝕄 :=
  iprop(cred (tallyAt (sendCell c r) () N) ∗ atPos ER (sendCell c r) 0 ∅ 0)

theorem waitSend_run (c : Dev nD) (r : Fin 15) :
    iprop((records m K ∗ owes0 c) ∗ sentNeed (F := F) c r) ⊢ run c (waitSend c r) fun _ =>
      iprop((records m K ∗ owes0 c) ∗ srcPts m c (nx c r) ∗ zero (F := F) c (sendSem r)) := by
  unfold waitSend owes0 sentNeed
  simp only [run, Prog.lift]
  iintro ⟨⟨#HR, ⟨%W, HO⟩⟩, Hc, Hat⟩
  iapply (Rounds.wp_wait_rest_token 𝒱₀ ER (Rd m) (c : Thread nD τ) none (κ := K (c, some (false, r)))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iapply (inv_at m K (c, some (false, r))); iexact HR
    isplitl [Hc]; · iexact Hc
    isplitl [HO]; · iexact HO
    isplitr; · rw [MayWait_zero]; iempintro
    iexact Hat
  iintro ⟨HO, Hat, -, Hpay⟩
  ihave Hp := (Entails.of_eq (rest_send m c r)) $$ Hpay
  imod (Rounds.cell_close ER (Rd m) (Set.mem_univ (K (c, some (false, r)))) (fun h => h) (R := 0 + 1) (duties_later m (sendCell c r))) $$ [Hat] with Hz
  · isplitr; · iapply (inv_at m K (c, some (false, r))); iexact HR
    iexact Hat
  rw [wp_ret]
  imodintro
  isplitl [HO]
  · isplitr; · iexact HR
    iexists _; iexact HO
  isplitl [Hp]
  · unfold sendPay; iexact Hp
  · iexact Hz

/-! ## Steps -/

/-- Step 0: the first product. -/
theorem step0_run (c : Dev nD) :
    iprop(inFlight m c 0 ∗ owes0 c ∗ colPts c (kb c 0) (XROW m c) ∗ ∃ f, accPts (F := F) c f) ⊢ run c (step0 c) fun _ =>
      iprop(slotFree c (slotOf 0) ∗ wPts m c (kb c 0) ∗ owes0 c ∗ colPts c (kb c 0) (XROW m c) ∗ accPts c (accAt m c 0)) := by
  unfold step0
  iintro ⟨Hf, HO, Hr, ⟨%f, Ha⟩⟩
  iapply (run_bind (waitW_run m c 0)) $$ [Hf HO]
  · isplitl [Hf] <;> iassumption
  iintro %_ ⟨Hs, Hw, Hz, HO⟩
  iapply (run_bind (readRow_run m c 0)) $$ Hr
  iintro %a ⟨%ha, Hr⟩
  subst ha
  iapply (run_bind (readSlot_run m c 0)) $$ Hs
  iintro %b ⟨%hb, Hs⟩
  subst hb
  iapply (run_bind (readAcc_run c f)) $$ Ha
  iintro %v ⟨-, Ha⟩
  iapply (wp_wand_r)
  isplitl [Ha]; · iapply (writeAcc_run c f (k0_pay3 (rowAt m c 0) (slotAt m c 0))) $$ Ha
  iintro %_ Ha
  unfold slotFree
  isplitl [Hs Hz]
  · isplitl [Hs]; · iexists _; iexact Hs
    iexact Hz
  isplitl [Hw]; · iexact Hw
  isplitl [HO]; · iexact HO
  isplitl [Hr]; · iexact Hr
  iexact Ha

/-- Step `1 + r`. -/
theorem step_run (c : Dev nD) (r : Fin 15) :
    iprop(records m K ∗ inFlight m c (stepOf r) ∗ owes0 c ∗ rcvNeed (F := F) c r ∗ accPts c (accAt m c r.val)) ⊢ run c (step c r) fun _ =>
      iprop(slotFree c (slotOf (stepOf r)) ∗ wPts m c (kb c (stepOf r)) ∗ owes0 c ∗ colPts c (kb c (stepOf r)) (XROW m c)
        ∗ zero (F := F) c (recvSem r) ∗ accPts c (accAt m c (r.val + 1))) := by
  unfold step
  iintro ⟨#HR, Hf, HO, Hn, Ha⟩
  iapply (run_bind (waitW_run m c (stepOf r))) $$ [Hf HO]
  · isplitl [Hf] <;> iassumption
  iintro %_ ⟨Hs, Hw, Hz, HO⟩
  iapply (run_bind (waitRecv_run m K c r)) $$ [HO Hn]
  · isplitl [HO]
    · isplitr; · iexact HR
      iexact HO
    · iexact Hn
  iintro %_ ⟨HO, Hr, Hzr⟩
  iapply (run_bind (readRow_run m c (stepOf r))) $$ Hr
  iintro %a ⟨%ha, Hr⟩
  subst ha
  iapply (run_bind (readSlot_run m c (stepOf r))) $$ Hs
  iintro %b ⟨%hb, Hs⟩
  subst hb
  iapply (run_bind (readAcc_run c (accAt m c r.val))) $$ Ha
  iintro %v ⟨%hv, Ha⟩
  subst hv
  iapply (run_bind (readAcc_run c (accAt m c r.val))) $$ Ha
  iintro %v ⟨-, Ha⟩
  iapply (wp_wand_r)
  isplitl [Ha]; · iapply (writeAcc_run c (accAt m c r.val) (k0_pay6 (rowAt m c (stepOf r)) (slotAt m c (stepOf r)) (accAt m c r.val))) $$ Ha
  iintro %_ Ha
  have e : accAt m c (r.val + 1) = k0_pay6 (rowAt m c (stepOf r)) (slotAt m c (stepOf r)) (accAt m c r.val) := by
    have h : (⟨(r.val + 1) % 16, Nat.mod_lt _ (by decide)⟩ : Fin 16) = stepOf r := by
      apply Fin.ext; have := r.isLt; show (r.val + 1) % 16 = 1 + r.val; omega
    show k0_pay6 (rowAt m c ⟨(r.val + 1) % 16, _⟩) (slotAt m c ⟨(r.val + 1) % 16, _⟩) (accAt m c r.val) = _
    rw [h]
  unfold slotFree
  rw [e]
  isplitl [Hs Hz]
  · isplitl [Hs]; · iexists _; iexact Hs
    iexact Hz
  isplitl [Hw]; · iexact Hw
  isplitl [HO]; · iexact HO
  isplitl [Hr]; · iexact Hr
  isplitl [Hzr]; · iexact Hzr
  iexact Ha

/-! ## Quarters -/

/-- The write of quarter `q` is on its way. -/
def outFlight (c : Dev nD) (q : Fin 4) : sProp 𝕄 :=
  Transfers.Flight EC (c : Thread nD τ) (.dma (outSem q)) () NQ iprop(resQ c q (OUT m c) ∗ accQ c q (OUT m c))

/-- What the write of a quarter leaves. -/
theorem out_land (c : Dev nD) (q : Fin 4) (f : Buf (Elt F) ((vOut q).view.loc (c : Thread nD τ))) :
    iprop(((vOut q).view.loc (c : Thread nD τ) ↦[(vOut q).view.set]{fullShare}
        ((vOut q).view.write (Elt F) f ((vAcc q).view.read (Elt F) (OUT m c)) Finset.univ))
      ∗ ((vAcc q).view.loc (c : Thread nD τ) ↦[(vAcc q).view.set]{fullShare} OUT m c))
    ⊢ (iprop(resQ c q (OUT m c) ∗ accQ c q (OUT m c)) : sProp 𝕄) := by
  unfold resQ accQ
  have h := vOut_set q
  have h' := vAcc_set q
  rw [← h]
  refine (sep_mono_left (Entails.of_eq (pointsTo_congr (write_read_on (vOut q).view (Elt F) f (OUT m c) _ rfl)))).trans ?_
  rw [h', h]

theorem quarter_run (c : Dev nD) (q : Fin 4) :
    iprop((colPts c (kb c 15) (XROW m c) ∗ slotPts c 3 (WBUF m c 15))
        ∗ accQ c q (accAt m c 14) ∗ (∃ f, resQ (F := F) c q f) ∗ zero (F := F) c (outSem q))
      ⊢ run c (quarter c q) fun _ => iprop((colPts c (kb c 15) (XROW m c) ∗ slotPts c 3 (WBUF m c 15)) ∗ outFlight m c q) := by
  have hset : (mAcc.access (Rect.unit (s := S256x8192) ![0, 2048 * q.val] S256x2048.size (inbQ q))).set = qCols q :=
    (View.set_slice_whole cc0_scratch3 _).trans (quarter_rect_set q)
  unfold quarter
  iintro ⟨⟨Hr, Hs⟩, Ha, ⟨%g, Ho⟩, Hz⟩
  iapply (run_bind (readRow_run m c 15)) $$ Hr
  iintro %a ⟨%ha, Hr⟩
  subst ha
  unfold readSlotQ readAccQ slotPts accQ resQ
  simp only [Prog.lift, Prog.bind_op, Prog.bind_ret]
  iapply (wp_load 𝒱₀ (c : Thread nD τ) none Set.univ (m := mBuf) (S := slotSet 3)
    (by rw [whole_setOn]; exact slotQ_set q)) $$ Hs; iintro Hs
  iapply (wp_load 𝒱₀ (c : Thread nD τ) none Set.univ (m := mAcc) (S := qCols q)
    ((whole_setOn cc0_scratch3 _).trans (quarter_rect_set q)).subset) $$ Ha; iintro Ha
  iapply (wp_load 𝒱₀ (c : Thread nD τ) none Set.univ (m := mAcc) (S := qCols q)
    ((whole_setOn cc0_scratch3 _).trans (quarter_rect_set q)).subset) $$ Ha; iintro Ha
  iapply (wp_store 𝒱₀ (c : Thread nD τ) none Set.univ (m := mAcc) (r := Rect.unit (s := S256x8192) ![0, 2048 * q.val] S256x2048.size (inbQ q)) (Mk := Finset.univ) (S := qCols q) hset.subset) $$ Ha; iintro Ha
  have e := pointsTo_congr (nD := nD) (τ := τ) (sig := sig) (Ix := Unit) (Val := Elt F) (Name := ℕ) (U := UU) (Lvl := ℕ) (ℓ := (c : Thread nD τ).loc cc0_scratch3) (I := qCols q) (q := fullShare)
    (fun i hi => write_read_on (mAcc.access (Rect.unit (s := S256x8192) ![0, 2048 * q.val] S256x2048.size (inbQ q))) (Elt F) (accAt m c 14) (OUT m c) _ (out_read m c q) i (hset ▸ hi))
  iapply (dma_at c (src := vAcc q) (dst := vOut q) (fs := OUT m c) (fd := g) NQ rfl NQ_pos) $$ [Ha Ho Hz]
  · isplitl [Ha]
    · rw [vAcc_set]
      iapply (Entails.of_eq e)
      unfold outQ
      iexact Ha
    isplitl [Ho]
    · rw [vOut_set]; iexact Ho
    iexact Hz
  iintro H
  simp only [run]
  rw [wp_ret]
  imodintro
  isplitl [Hr Hs]
  · isplitl [Hr]; · iexact Hr
    iexact Hs
  unfold outFlight
  iapply (Transfers.Flight_mono EC (c : Thread nD τ) (out_land m c q g)) $$ H

theorem waitOut_run (c : Dev nD) (q : Fin 4) :
    iprop(owes0 c ∗ outFlight m c q) ⊢ run c (waitOut q) fun _ =>
      iprop(owes0 c ∗ resQ c q (OUT m c) ∗ accQ c q (OUT m c) ∗ zero (F := F) c (outSem q)) := by
  unfold waitOut outFlight owes0
  simp only [run, Prog.lift]
  iintro ⟨⟨%W, HO⟩, Hf⟩
  iapply (Transfers.wp_waitLocal EC 𝒱₀ (c : Thread nD τ) none (srcw := vAcc q) (dstw := vOut q) (hsrc := View.wordExact_bits rfl) (hdst := View.wordExact_bits rfl) () (N := NQ) rfl) $$ [Hf HO]
  · isplitl [Hf]; · iexact Hf
    iexact HO
  iintro ⟨⟨Hs, Hw⟩, Hz, HO⟩
  rw [wp_ret]
  imodintro
  isplitl [HO]; · iexists _; iexact HO
  isplitl [Hs]; · iexact Hs
  isplitl [Hw]; · iexact Hw
  iexact Hz

end Cert.KernelIdeal.A2a
end
-- ==== Proof.Body.lean ====
module

public import proofs.«01_k».proof.Proof.Steps
public import Idealize.ShloMosaic.Lib.Ring

/-!
# The body of the kernel

The loops of the body are run one after the other: first the exchange is started, then the steps are taken, then the
result is written out.
-/

@[expose] public section

set_option maxRecDepth 16384

noncomputable section

namespace Cert.KernelIdeal.A2a

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × Option (Bool × Fin 15) → ℕ)

/-! ## Loops that keep what they hold -/

theorem run_each {α : Type} {c : Dev nD} (f : α → P F PUnit) (A : sProp 𝕄) (pre post : α → sProp 𝕄) (l : List α)
    (h : ∀ a, iprop(A ∗ pre a) ⊢ run c (f a) fun _ => iprop(A ∗ post a)) :
    iprop(A ∗ bigSepL l pre) ⊢ run c (loop f l) fun _ => iprop(A ∗ bigSepL l post) :=
  run_loop f (fun _ => A) pre post l 0 fun k hk => h l[k]

/-- Conjunctions over an index type are compared index by index. -/
theorem all_mono {I : Type} [Fintype I] {Φ Ψ : I → sProp 𝕄} (h : ∀ i, Φ i ⊢ Ψ i) : bigSep Finset.univ Φ ⊢ bigSep Finset.univ Ψ :=
  BI.bigSep_mono fun i _ => h i

/-! ## Devices as lists -/

abbrev quarters : List (Fin 4) := [0, 1, 2, 3]
/-- The steps in four groups: the ones loaded first, the next, the ones loaded in the loop. -/
abbrev steps : List (Fin 16) := [0, 1, 2, 3] ++ 4 :: peersA.map nextOf

theorem quarters_all (Φ : Fin 4 → sProp 𝕄) : bigSep Finset.univ Φ = bigSepL quarters Φ :=
  bigSep_univ_eq_bigSepL quarters (by decide) (by decide) Φ
theorem peers_all (Φ : Fin 15 → sProp 𝕄) : bigSep Finset.univ Φ = bigSepL peers Φ :=
  bigSep_univ_eq_bigSepL peers (by decide) (by decide) Φ
/-- All devices: this one, and the ones its transfers go to. -/
theorem devs_nx (c : Dev nD) (Φ : Dev nD → sProp 𝕄) : bigSep Finset.univ Φ = iprop(Φ c ∗ bigSepL peers fun r => Φ (nx c r)) := by
  rw [bigSep_univ_eq_bigSepL (c :: peers.map (nx c)) (by revert c; decide +kernel) (by revert c; decide +kernel) Φ, bigSepL_cons', bigSepL_map]
/-- All devices, in the order of the steps' loads. -/
theorem devs_load (c : Dev nD) (Φ : Dev nD → sProp 𝕄) : bigSep Finset.univ Φ
    = iprop((bigSepL [(0 : Fin 16), 1, 2, 3] fun j => Φ (kb c j)) ∗ Φ (kb c 4) ∗ bigSepL peersA fun r => Φ (kb c (nextOf r))) := by
  rw [bigSep_univ_eq_bigSepL (steps.map (kb c)) (by revert c; decide +kernel) (by revert c; decide +kernel) Φ, bigSepL_map, steps, bigSepL_append, bigSepL_cons' (4 : Fin 16), bigSepL_map]
/-- All devices, in the order of the steps. -/
theorem devs_step (c : Dev nD) (Φ : Dev nD → sProp 𝕄) : bigSep Finset.univ Φ
    = iprop(Φ (kb c 0) ∗ (bigSepL peersA fun r => Φ (kb c (stepOf r))) ∗ (bigSepL [(11 : Fin 15), 12, 13] fun r => Φ (kb c (stepOf r))) ∗ Φ (kb c 15)) := by
  rw [bigSep_univ_eq_bigSepL ((0 :: (peersA.map stepOf ++ ([(11 : Fin 15), 12, 13].map stepOf ++ [15]))).map (kb c)) (by revert c; decide +kernel) (by revert c; decide +kernel) Φ,
    bigSepL_map, bigSepL_cons', bigSepL_append, bigSepL_append, bigSepL_map, bigSepL_map, bigSepL_singleton]

/-! ## Whole buffers and their parts -/

theorem strips_disjoint {s : Shape} {a : Fin s.rank} {n k : ℕ} (b b' : Fin k) (h : b ≠ b') : Disjoint (strip s a n b.val) (strip s a n b'.val) :=
  strip_disjoint fun e => h (Fin.ext e)

theorem w_cover : (Finset.univ : Finset (Dev nD)).biUnion (fun k => wRows k) = Finset.univ := strip_cover (s := S4096x8192) (a := 0) (n := 256) (K := 16) rfl
theorem x_cover : (Finset.univ : Finset (Dev nD)).biUnion (fun k => xRows k) = Finset.univ := strip_cover (s := S4096x256) (a := 0) (n := 256) (K := 16) rfl
theorem g_cover : (Finset.univ : Finset (Dev nD)).biUnion (fun k => gCols k) = Finset.univ := strip_cover (s := S256x4096) (a := 1) (n := 256) (K := 16) rfl
theorem slot_cover : (Finset.univ : Finset (Fin 4)).biUnion (fun q => slotSet q) = Finset.univ := strip_cover (s := S4x256x8192) (a := 0) (n := 1) (K := 4) rfl
theorem q_cover : (Finset.univ : Finset (Fin 4)).biUnion (fun q => qCols q) = Finset.univ := strip_cover (s := S256x8192) (a := 1) (n := 2048) (K := 4) rfl

/-- A buffer held whole is held strip by strip. -/
theorem pts_split {ℓ : Loc nD τ sig} {B : Type} [Fintype B] [DecidableEq B] {I : B → Finset (Idx ℓ)} (hd : ∀ b b', b ≠ b' → Disjoint (I b) (I b'))
    (hc : Finset.univ.biUnion I = Finset.univ) (f : Buf (Elt F) ℓ) : (ℓ ↦{fullShare} f : sProp 𝕄) = bigSep Finset.univ fun b => ℓ ↦[I b]{fullShare} f :=
  Ring.pointsTo_blocks I hd hc f

theorem w_split (c : Dev nD) : ((c : Thread nD τ).loc main_arg1 ↦{fullShare} WIN m c : sProp 𝕄) = bigSep Finset.univ fun k : Dev nD => wPts m c k :=
  pts_split (ℓ := (c : Thread nD τ).loc main_arg1) (I := fun k : Dev nD => wRows k) (fun b b' h => strips_disjoint (k := 16) b b' h) w_cover (WIN m c)
theorem xbf_split (c : Dev nD) : xbfPts c (XBF m c) = bigSep Finset.univ fun k : Dev nD => srcPts m c k :=
  pts_split (ℓ := (c : Thread nD τ).loc cc0_scratch0) (I := fun k : Dev nD => xRows k) (fun b b' h => strips_disjoint (k := 16) b b' h) x_cover (XBF m c)
theorem row_split (c : Dev nD) (f : S256x4096.Idx → Elt F .bf16) :
    ((c : Thread nD τ).loc cc0_scratch1 ↦{fullShare} f : sProp 𝕄) = bigSep Finset.univ fun k : Dev nD => colPts c k f :=
  pts_split (ℓ := (c : Thread nD τ).loc cc0_scratch1) (I := fun k : Dev nD => gCols k) (fun b b' h => strips_disjoint (k := 16) b b' h) g_cover f
theorem buf_split (c : Dev nD) (f : S4x256x8192.Idx → Elt F .f32) :
    ((c : Thread nD τ).loc cc0_scratch2 ↦{fullShare} f : sProp 𝕄) = bigSep Finset.univ fun q : Fin 4 => slotPts c q f :=
  pts_split (ℓ := (c : Thread nD τ).loc cc0_scratch2) (I := fun q : Fin 4 => slotSet q) (fun b b' h => strips_disjoint (k := 4) b b' h) slot_cover f
theorem buf_join (c : Dev nD) (f₀ : S4x256x8192.Idx → Elt F .f32) :
    bigSep Finset.univ (fun q : Fin 4 => iprop(∃ f, slotPts c q f)) ⊢ (iprop(∃ g : S4x256x8192.Idx → Elt F .f32, (c : Thread nD τ).loc cc0_scratch2 ↦{fullShare} g) : sProp 𝕄) :=
  Ring.pointsTo_blocks_join_exists (ℓ := (c : Thread nD τ).loc cc0_scratch2) (fun q : Fin 4 => slotSet q) (fun b b' h => strips_disjoint (k := 4) b b' h) slot_cover f₀
theorem acc_split (c : Dev nD) (f : S256x8192.Idx → Elt F .f32) : accPts c f = bigSep Finset.univ fun q : Fin 4 => accQ c q f :=
  pts_split (ℓ := (c : Thread nD τ).loc cc0_scratch3) (I := fun q : Fin 4 => qCols q) (fun b b' h => strips_disjoint (k := 4) b b' h) q_cover f
theorem res_split (c : Dev nD) (f : S256x8192.Idx → Elt F .f32) :
    ((c : Thread nD τ).loc main_v1 ↦{fullShare} f : sProp 𝕄) = bigSep Finset.univ fun q : Fin 4 => resQ c q f :=
  pts_split (ℓ := (c : Thread nD τ).loc main_v1) (I := fun q : Fin 4 => qCols q) (fun b b' h => strips_disjoint (k := 4) b b' h) q_cover f

/-! ## Starting the exchange -/

/-- What device `c` owes after its first `k` signals. -/
theorem owes_signal (c : Dev nD) (k : ℕ) (hk : k < peers.length) :
    owR c peers + owB c (peers.drop k) = owR c peers + owB c (peers.drop (k + 1)) + tallyAt (barCell (nx c peers[k])) () 1 := by
  rw [List.drop_eq_getElem_cons hk, owB_cons, add_assoc]
/-- What device `c` owes after its first `k` sends. -/
theorem owes_send (c : Dev nD) (k : ℕ) (hk : k < peers.length) :
    owR c (peers.drop k) = owR c (peers.drop (k + 1)) + tallyAt (recvCell (nx c peers[k]) peers[k]) () N := by
  rw [List.drop_eq_getElem_cons hk, owR_cons]

theorem signals_run (c : Dev nD) :
    iprop((records m K ∗ ∃ W, owes (c : Thread nD τ) (O₀ c) W) ∗ bigSepL peers (sigNeed (F := F) c))
      ⊢ run c (loop (signal c) peers) fun _ => iprop((records m K ∗ ∃ W, owes (c : Thread nD τ) (owR c peers) W) ∗ bigSepL peers fun _ => iprop(emp)) := by
  have h := run_loop (signal c) (fun k => iprop(records m K ∗ ∃ W, owes (c : Thread nD τ) (owR c peers + owB c (peers.drop k)) W))
    (sigNeed (F := F) c) (fun _ => iprop(emp)) peers 0 (fun k hk => by
      rw [Nat.zero_add, owes_signal c k hk]
      exact signal_run m K c peers[k] (owR c peers + owB c (peers.drop (k + 1))))
  rw [show owR c peers + owB c (peers.drop (0 + peers.length)) = owR c peers from add_zero _] at h
  exact h

theorem sends_run (c : Dev nD) :
    iprop((records m K ∗ ∃ W, owes (c : Thread nD τ) (owR c peers) W) ∗ bigSepL peers (sndNeed m c))
      ⊢ run c (loop (send c) peers) fun _ => iprop((records m K ∗ owes0 (F := F) c) ∗ bigSepL peers fun r => cred (tallyAt (sendCell c r) () N)) := by
  have h := run_loop (send c) (fun k => iprop(records m K ∗ ∃ W, owes (c : Thread nD τ) (owR c (peers.drop k)) W))
    (sndNeed m c) (fun r => cred (tallyAt (sendCell c r) () N)) peers 0 (fun k hk => by
      rw [Nat.zero_add, owes_send c k hk]
      exact send_run m K c peers[k] (owR c (peers.drop (k + 1))))
  exact h

/-- The two duties that send `r` pays. -/
def sndToks (c : Dev nD) (r : Fin 15) : sProp 𝕄 := iprop(dutyTok ER (sendCell c r) 0 0 ∗ dutyTok ER (recvCell (nx c r) r) 0 0)
/-- The duty that signal `r` pays. -/
def sigTok (c : Dev nD) (r : Fin 15) : sProp 𝕄 := dutyTok ER (barCell (nx c r)) 0 (opp r)

/-- The exchange is started: the first loads are on their way, the device's own columns are filled. -/
theorem start_run (c : Dev nD) {k : P F PUnit} {Q : PUnit → sProp 𝕄} :
    iprop(records m K ∗ levAts L lv ∗ (bigSepL [(0 : Fin 16), 1, 2, 3] fun j => iprop(wPts m c (kb c j) ∗ slotFree c (slotOf j)))
        ∗ stgPts m c ∗ (∃ f, xbfPts c f) ∗ (∃ f : S256x4096.Idx → Elt F .bf16, (c : Thread nD τ).loc cc0_scratch1 ↦{fullShare} f)
        ∗ (∃ W, owes (c : Thread nD τ) (O₀ c) W) ∗ cred (tallyAt (barCell c) () 15) ∗ atPos ER (barCell c) 0 ∅ 0
        ∗ bigSepL peers (sigTok (F := F) c) ∗ bigSepL peers (sndToks (F := F) c))
      ⊢ iprop((((bigSepL [(0 : Fin 16), 1, 2, 3] (inFlight m c)) ∗ stgPts m c ∗ owes0 (F := F) c ∗ semVal (barCell c) 0 ∗ srcPts m c c ∗ colPts c c (XROW m c)
          ∗ bigSepL peers fun r => cred (tallyAt (sendCell c r) () N)) -∗ run c k Q)
        -∗ run c (do
            loop (loadW c) [0, 1, 2, 3]
            castX
            loop (signal c) peers
            semWaitWord barSem 15#32
            loop (send c) peers
            ownCopy c
            k) Q) := by
  iintro ⟨#HR, #Hlev, Hw, Hx, Hxb, ⟨%f1, Hrow⟩, HO, Hcb, Hab, Htg, Hts⟩ Hk
  iapply (run_bind (run_each (c := c) (loadW c) iprop(emp) (fun j => iprop(wPts m c (kb c j) ∗ slotFree c (slotOf j))) (inFlight m c) [0, 1, 2, 3] (fun j => by
    iintro ⟨-, H⟩
    iapply (wp_wand_r)
    isplitl [H]; · iapply (loadW_run m c j) $$ H
    iintro %_ H
    isplitr; · iempintro
    iexact H))) $$ [Hw]
  · isplitr; · iempintro
    iexact Hw
  iintro %_ ⟨-, Hf⟩
  iapply (run_bind (castX_run m c)) $$ [Hx Hxb]
  · isplitl [Hx] <;> iassumption
  iintro %_ ⟨Hx, Hxb⟩
  ihave Hrow := (Entails.of_eq ((row_split c f1).trans (devs_nx c _))) $$ Hrow
  icases Hrow with ⟨Hrow0, Hrow⟩
  have e1 : (iprop((bigSepL peers (sigTok (F := F) c)) ∗ bigSepL peers fun r => colPts c (nx c r) f1) : sProp 𝕄) ⊢ bigSepL peers (sigNeed (F := F) c) := by
    rw [← peers_all, ← peers_all, ← peers_all, ← bigSep_sep']
    exact all_mono fun r => by
      unfold sigNeed sigTok
      iintro ⟨H, H'⟩
      isplitl [H]; · iexact H
      iexists f1; iexact H'
  ihave Hsig := e1 $$ [Htg Hrow]
  · isplitl [Htg] <;> iassumption
  iapply (run_bind (signals_run m K c)) $$ [HO Hsig]
  · isplitr [Hsig]
    · isplitr; · iexact HR
      iexact HO
    · iexact Hsig
  iintro %_ ⟨⟨-, HO⟩, -⟩
  iapply (run_bind (barrier_run m K c)) $$ [HO Hcb Hab]
  · isplitr; · iexact HR
    isplitr; · iexact Hlev
    isplitl [Hcb]; · iexact Hcb
    isplitl [HO]; · iexact HO
    iexact Hab
  iintro %_ ⟨HO, Hab, Hpay⟩
  imod (Rounds.cell_close ER (Rd m) (Set.mem_univ (K (c, none))) (fun h => h) (R := 0 + 1) (duties_later m (barCell c))) $$ [Hab] with Hzb
  · isplitr; · iapply (inv_at m K (c, none)); iexact HR
    iexact Hab
  ihave Hxb := (Entails.of_eq ((xbf_split m c).trans (devs_nx c _))) $$ Hxb
  icases Hxb with ⟨Hxb0, Hxb⟩
  have e2 : (iprop((bigSepL peers fun r => srcPts m c (nx c r)) ∗ (bigSep Finset.univ fun d => barPay (F := F) c d) ∗ bigSepL peers (sndToks (F := F) c)) : sProp 𝕄)
      ⊢ bigSepL peers (sndNeed m c) := by
    rw [← peers_all, ← peers_all, ← peers_all, ← bigSep_sep', ← bigSep_sep']
    exact all_mono fun r => by
      unfold sndNeed sndToks
      iintro ⟨H, H', H''⟩
      isplitl [H]; · iexact H
      isplitl [H'] <;> iassumption
  ihave Hsnd := e2 $$ [Hxb Hpay Hts]
  · isplitl [Hxb]; · iexact Hxb
    isplitl [Hpay] <;> iassumption
  iapply (run_bind (sends_run m K c)) $$ [HO Hsnd]
  · isplitr [Hsnd]
    · isplitr; · iexact HR
      iexact HO
    · iexact Hsnd
  iintro %_ ⟨⟨-, HO⟩, Hcs⟩
  iapply (run_bind (ownCopy_run m c)) $$ [Hxb0 Hrow0]
  · isplitl [Hxb0]; · iexact Hxb0
    iexists f1; iexact Hrow0
  iintro %_ ⟨Hxb0, Hrow0⟩
  iapply Hk
  isplitl [Hf]; · iexact Hf
  isplitl [Hx]; · iexact Hx
  isplitl [HO]; · iexact HO
  isplitl [Hzb]; · iexact Hzb
  isplitl [Hxb0]; · iexact Hxb0
  isplitl [Hrow0] <;> iassumption

/-! ## The steps -/

/-- The loads on their way after step `k`. -/
def loads (c : Dev nD) (k : ℕ) : sProp 𝕄 :=
  iprop(inFlight m c ⟨(k + 1) % 16, Nat.mod_lt _ (by decide)⟩ ∗ inFlight m c ⟨(k + 2) % 16, Nat.mod_lt _ (by decide)⟩
    ∗ inFlight m c ⟨(k + 3) % 16, Nat.mod_lt _ (by decide)⟩ ∗ inFlight m c ⟨(k + 4) % 16, Nat.mod_lt _ (by decide)⟩)

theorem stepsA_run (c : Dev nD) :
    iprop((records m K ∗ loads m c 0 ∗ owes0 (F := F) c ∗ accPts c (accAt m c 0)) ∗ bigSepL peersA fun r => iprop(rcvNeed (F := F) c r ∗ wPts m c (kb c (nextOf r))))
      ⊢ run c (loop (fun r => do step c r; loadW c (nextOf r)) peersA) fun _ =>
        iprop((records m K ∗ loads m c 11 ∗ owes0 (F := F) c ∗ accPts c (accAt m c 11))
          ∗ bigSepL peersA fun r => iprop(colPts c (kb c (stepOf r)) (XROW m c) ∗ zero (F := F) c (recvSem r) ∗ wPts m c (kb c (stepOf r)))) := by
  have hv : ∀ i : Fin peersA.length, (peersA.get i).val = i.val := by decide
  refine run_loop (fun r => do step c r; loadW c (nextOf r)) (fun k => iprop(records m K ∗ loads m c k ∗ owes0 (F := F) c ∗ accPts c (accAt m c k)))
    (fun r => iprop(rcvNeed (F := F) c r ∗ wPts m c (kb c (nextOf r))))
    (fun r => iprop(colPts c (kb c (stepOf r)) (XROW m c) ∗ zero (F := F) c (recvSem r) ∗ wPts m c (kb c (stepOf r)))) peersA 0 fun k hk => ?_
  have hr : (peersA[k]).val = k := hv ⟨k, hk⟩
  generalize peersA[k] = r at hr ⊢
  subst hr
  rw [Nat.zero_add]
  have h1 : (⟨(r.val + 1) % 16, Nat.mod_lt _ (by decide)⟩ : Fin 16) = stepOf r := by
    apply Fin.ext; have := r.isLt; show (r.val + 1) % 16 = 1 + r.val; omega
  have h5 : (⟨(r.val + 1 + 4) % 16, Nat.mod_lt _ (by decide)⟩ : Fin 16) = nextOf r := by
    apply Fin.ext; show (r.val + 1 + 4) % 16 = (5 + r.val) % 16; omega
  have hs : slotOf (stepOf r) = slotOf (nextOf r) := by
    apply Fin.ext; show (1 + r.val) % 4 = ((5 + r.val) % 16) % 4; omega
  unfold loads
  rw [h1, h5]
  iintro ⟨⟨#HR, ⟨Hf1, Hf2, Hf3, Hf4⟩, HO, Ha⟩, Hn, Hw⟩
  iapply (run_bind (step_run m K c r)) $$ [Hf1 HO Hn Ha]
  · isplitr; · iexact HR
    isplitl [Hf1]; · iexact Hf1
    isplitl [HO]; · iexact HO
    isplitl [Hn] <;> iassumption
  iintro %_ ⟨Hsl, Hw', HO, Hr, Hz, Ha⟩
  iapply (wp_wand_r)
  isplitl [Hsl Hw]
  · iapply (loadW_run m c (nextOf r))
    isplitl [Hw]; · iexact Hw
    rw [← hs]
    iexact Hsl
  iintro %_ Hf
  isplitl [Hf2 Hf3 Hf4 Hf HO Ha]
  · isplitr; · iexact HR
    isplitl [Hf2 Hf3 Hf4 Hf]
    · isplitl [Hf2]; · iexact Hf2
      isplitl [Hf3]; · iexact Hf3
      isplitl [Hf4]; · iexact Hf4
      iexact Hf
    isplitl [HO] <;> iassumption
  isplitl [Hr]; · iexact Hr
  isplitl [Hz] <;> iassumption

theorem stepsB_run (c : Dev nD) :
    iprop((records m K ∗ owes0 (F := F) c ∗ accPts c (accAt m c 11)) ∗ bigSepL [(11 : Fin 15), 12, 13] fun r => iprop(rcvNeed (F := F) c r ∗ inFlight m c (stepOf r)))
      ⊢ run c (loop (step c) [11, 12, 13]) fun _ =>
        iprop((records m K ∗ owes0 (F := F) c ∗ accPts c (accAt m c 14))
          ∗ bigSepL [(11 : Fin 15), 12, 13] fun r => iprop(slotFree (F := F) c (slotOf (stepOf r)) ∗ colPts c (kb c (stepOf r)) (XROW m c) ∗ zero (F := F) c (recvSem r) ∗ wPts m c (kb c (stepOf r)))) := by
  have hv : ∀ i : Fin [(11 : Fin 15), 12, 13].length, ([(11 : Fin 15), 12, 13].get i).val = 11 + i.val := by decide
  refine run_loop (step c) (fun k => iprop(records m K ∗ owes0 (F := F) c ∗ accPts c (accAt m c k)))
    (fun r => iprop(rcvNeed (F := F) c r ∗ inFlight m c (stepOf r)))
    (fun r => iprop(slotFree (F := F) c (slotOf (stepOf r)) ∗ colPts c (kb c (stepOf r)) (XROW m c) ∗ zero (F := F) c (recvSem r) ∗ wPts m c (kb c (stepOf r)))) [11, 12, 13] 11 fun k hk => ?_
  have hr : ([(11 : Fin 15), 12, 13][k]).val = 11 + k := hv ⟨k, hk⟩
  generalize [(11 : Fin 15), 12, 13][k] = r at hr ⊢
  rw [← hr]
  iintro ⟨⟨#HR, HO, Ha⟩, Hn, Hf⟩
  iapply (wp_wand_r)
  isplitl [Hf HO Hn Ha]
  · iapply (step_run m K c r)
    isplitr; · iexact HR
    isplitl [Hf]; · iexact Hf
    isplitl [HO]; · iexact HO
    isplitl [Hn] <;> iassumption
  iintro %_ ⟨Hsl, Hw', HO, Hr, Hz, Ha⟩
  isplitl [HO Ha]
  · isplitr; · iexact HR
    isplitl [HO] <;> iassumption
  isplitl [Hsl]; · iexact Hsl
  isplitl [Hr]; · iexact Hr
  isplitl [Hz] <;> iassumption

/-- All steps but the last product. -/
theorem middle_run (c : Dev nD) {k : P F PUnit} {Q : PUnit → sProp 𝕄} :
    iprop(records m K ∗ (bigSepL [(0 : Fin 16), 1, 2, 3] (inFlight m c)) ∗ owes0 (F := F) c ∗ colPts c (kb c 0) (XROW m c) ∗ (∃ f, accPts (F := F) c f)
        ∗ wPts m c (kb c 4) ∗ (bigSepL peersA fun r => iprop(rcvNeed (F := F) c r ∗ wPts m c (kb c (nextOf r)))) ∗ (bigSepL [(11 : Fin 15), 12, 13] (rcvNeed (F := F) c))
        ∗ rcvNeed (F := F) c 14)
      ⊢ iprop((((colPts c (kb c 0) (XROW m c) ∗ wPts m c (kb c 0))
          ∗ (bigSepL peersA fun r => iprop(colPts c (kb c (stepOf r)) (XROW m c) ∗ zero (F := F) c (recvSem r) ∗ wPts m c (kb c (stepOf r))))
          ∗ (bigSepL [(11 : Fin 15), 12, 13] fun r => iprop(slotFree (F := F) c (slotOf (stepOf r)) ∗ colPts c (kb c (stepOf r)) (XROW m c) ∗ zero (F := F) c (recvSem r) ∗ wPts m c (kb c (stepOf r))))
          ∗ (colPts c (kb c 15) (XROW m c) ∗ slotPts c 3 (WBUF m c 15)) ∗ zero (F := F) c (loadSem 3) ∗ zero (F := F) c (recvSem 14) ∗ wPts m c (kb c 15)
          ∗ owes0 (F := F) c ∗ accPts c (accAt m c 14)) -∗ run c k Q)
        -∗ run c (do
            step0 c
            loadW c 4
            loop (fun r => do step c r; loadW c (nextOf r)) peersA
            loop (step c) [11, 12, 13]
            waitW c 15
            waitRecv c 14
            k) Q) := by
  iintro ⟨#HR, Hf, HO, Hr0, Ha, Hw4, HA, HB, Hn⟩ Hk
  simp only [bigSepL_cons', bigSepL_singleton]
  icases Hf with ⟨Hf0, Hf1, Hf2, Hf3, -⟩
  iapply (run_bind (step0_run m c)) $$ [Hf0 HO Hr0 Ha]
  · isplitl [Hf0]; · iexact Hf0
    isplitl [HO]; · iexact HO
    isplitl [Hr0] <;> iassumption
  iintro %_ ⟨Hs0, Hw0, HO, Hr0, Ha⟩
  iapply (run_bind (loadW_run m c 4)) $$ [Hw4 Hs0]
  · isplitl [Hw4]; · iexact Hw4
    iexact Hs0
  iintro %_ Hf4
  iapply (run_bind (stepsA_run m K c)) $$ [Hf1 Hf2 Hf3 Hf4 HO Ha HA]
  · isplitr [HA]
    · isplitr; · iexact HR
      isplitl [Hf1 Hf2 Hf3 Hf4]
      · unfold loads
        isplitl [Hf1]; · iexact Hf1
        isplitl [Hf2]; · iexact Hf2
        isplitl [Hf3]; · iexact Hf3
        iexact Hf4
      isplitl [HO] <;> iassumption
    · simp only [bigSepL_cons', bigSepL_singleton]
      iexact HA
  unfold loads
  iintro %_ ⟨⟨-, ⟨Hf12, Hf13, Hf14, Hf15⟩, HO, Ha⟩, HA⟩
  icases HB with ⟨HB0, HB1, HB2, -⟩
  iapply (run_bind (stepsB_run m K c)) $$ [Hf12 Hf13 Hf14 HO Ha HB0 HB1 HB2]
  · isplitl [HO Ha]
    · isplitr; · iexact HR
      isplitl [HO] <;> iassumption
    · simp only [bigSepL_cons', bigSepL_singleton]
      isplitl [HB0 Hf12]
      · isplitl [HB0]; · iexact HB0
        iexact Hf12
      isplitl [HB1 Hf13]
      · isplitl [HB1]; · iexact HB1
        iexact Hf13
      isplitl [HB2 Hf14]
      · isplitl [HB2]; · iexact HB2
        iexact Hf14
      iempintro
  iintro %_ ⟨⟨-, HO, Ha⟩, HB⟩
  iapply (run_bind (waitW_run m c 15)) $$ [Hf15 HO]
  · isplitl [Hf15]; · iexact Hf15
    iexact HO
  iintro %_ ⟨Hs, Hw, Hz, HO⟩
  iapply (run_bind (waitRecv_run m K c 14)) $$ [HO Hn]
  · isplitl [HO]
    · isplitr; · iexact HR
      iexact HO
    · iexact Hn
  iintro %_ ⟨HO, Hr, Hzr⟩
  iapply Hk
  isplitl [Hr0 Hw0]
  · isplitl [Hr0] <;> iassumption
  isplitl [HA]; · simp only [bigSepL_cons', bigSepL_singleton]; iexact HA
  isplitl [HB]; · simp only [bigSepL_cons', bigSepL_singleton]; iexact HB
  isplitl [Hr Hs]
  · isplitl [Hr]; · iexact Hr
    iexact Hs
  isplitl [Hz]; · iexact Hz
  isplitl [Hzr]; · iexact Hzr
  isplitl [Hw]; · iexact Hw
  isplitl [HO] <;> iassumption

/-! ## Writing the result -/

theorem end_run (c : Dev nD) :
    iprop(records m K ∗ owes0 (F := F) c ∗ accPts c (accAt m c 14) ∗ (colPts c (kb c 15) (XROW m c) ∗ slotPts c 3 (WBUF m c 15))
        ∗ (∃ f, (c : Thread nD τ).loc main_v1 ↦{fullShare} f) ∗ (bigSepL quarters fun q => zero (F := F) c (outSem q)) ∗ bigSepL peers (sentNeed (F := F) c))
      ⊢ run c (do
            loop (quarter c) [0, 1, 2, 3]
            loop (waitSend c) peers
            loop waitOut [0, 1, 2, 3]) fun _ =>
        iprop(owes0 (F := F) c ∗ accPts c (OUT m c) ∗ (colPts c (kb c 15) (XROW m c) ∗ slotPts c 3 (WBUF m c 15))
          ∗ ((c : Thread nD τ).loc main_v1 ↦{fullShare} OUT m c) ∗ (bigSepL quarters fun q => zero (F := F) c (outSem q))
          ∗ bigSepL peers fun r => iprop(srcPts m c (nx c r) ∗ zero (F := F) c (sendSem r))) := by
  iintro ⟨#HR, HO, Ha, Hrs, ⟨%g, Ho⟩, Hz, Hn⟩
  ihave Ha := (Entails.of_eq ((acc_split c _).trans (quarters_all _))) $$ Ha
  ihave Ho := (Entails.of_eq ((res_split c g).trans (quarters_all _))) $$ Ho
  have e1 : (iprop((bigSepL quarters fun q => accQ c q (accAt m c 14)) ∗ (bigSepL quarters fun q => resQ (F := F) c q g) ∗ bigSepL quarters fun q => zero (F := F) c (outSem q)) : sProp 𝕄)
      ⊢ bigSepL quarters fun q => iprop(accQ c q (accAt m c 14) ∗ (∃ f, resQ (F := F) c q f) ∗ zero (F := F) c (outSem q)) := by
    rw [← quarters_all, ← quarters_all, ← quarters_all, ← quarters_all, ← bigSep_sep', ← bigSep_sep']
    exact all_mono fun q => by
      iintro ⟨H, H', H''⟩
      isplitl [H]; · iexact H
      isplitl [H']; · iexists g; iexact H'
      iexact H''
  ihave Hq := e1 $$ [Ha Ho Hz]
  · isplitl [Ha]; · iexact Ha
    isplitl [Ho] <;> iassumption
  iapply (run_bind (run_each (c := c) (quarter c) _ _ _ quarters (quarter_run m c))) $$ [Hrs Hq]
  · isplitl [Hrs] <;> iassumption
  iintro %_ ⟨Hrs, Hq⟩
  iapply (run_bind (run_each (c := c) (waitSend c) _ _ _ peers (waitSend_run m K c))) $$ [HO Hn]
  · isplitl [HO]
    · isplitr; · iexact HR
      iexact HO
    · iexact Hn
  iintro %_ ⟨⟨-, HO⟩, Hs⟩
  iapply (wp_wand_r)
  isplitl [HO Hq]
  · iapply (run_each (c := c) waitOut _ _ _ quarters (waitOut_run m c))
    isplitl [HO] <;> iassumption
  iintro %_ ⟨HO, Hq⟩
  have e2 : (bigSepL quarters fun q => iprop(resQ c q (OUT m c) ∗ accQ c q (OUT m c) ∗ zero (F := F) c (outSem q)) : sProp 𝕄)
      ⊢ iprop((bigSepL quarters fun q => resQ c q (OUT m c)) ∗ (bigSepL quarters fun q => accQ c q (OUT m c)) ∗ bigSepL quarters fun q => zero (F := F) c (outSem q)) := by
    rw [← quarters_all, ← quarters_all, ← quarters_all, ← quarters_all, ← bigSep_sep', ← bigSep_sep']
  ihave H := e2 $$ Hq
  icases H with ⟨Ho, Ha, Hz⟩
  isplitl [HO]; · iexact HO
  isplitl [Ha]; · iapply (Entails.of_eq ((acc_split c _).trans (quarters_all _)).symm); iexact Ha
  isplitl [Hrs]; · iexact Hrs
  isplitl [Ho]; · iapply (Entails.of_eq ((res_split c _).trans (quarters_all _)).symm); iexact Ho
  isplitl [Hz] <;> iassumption

end Cert.KernelIdeal.A2a
end
-- ==== Proof.Whole.lean ====
module

public import proofs.«01_k».proof.Proof.Body

/-!
# One device's run of the body

The three parts of the body put together: from what a device holds when the body is entered to what it holds when the
body is left.
-/

@[expose] public section

set_option maxRecDepth 16384

noncomputable section

namespace Cert.KernelIdeal.A2a

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × Option (Bool × Fin 15) → ℕ)

/-- The four scratch buffers of device `c`, at any contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- What device `c` holds of the exchange when the body is entered. -/
def exch (c : Dev nD) : sProp 𝕄 :=
  iprop(cred (tallyAt (barCell c) () 15) ∗ atPos ER (barCell c) 0 ∅ 0 ∗ bigSepL peers (sigTok (F := F) c) ∗ bigSepL peers (sndToks (F := F) c)
    ∗ bigSepL peers (rcvNeed (F := F) c) ∗ bigSepL peers fun r => atPos ER (sendCell c r) 0 ∅ 0)

/-- The counters of the local transfers of device `c`, at zero. -/
def locals (c : Dev nD) : sProp 𝕄 :=
  iprop((bigSepL quarters fun q => zero (F := F) c (loadSem q)) ∗ bigSepL quarters fun q => zero (F := F) c (outSem q))

/-- The counters of the exchange of device `c`, at zero. -/
def closed (c : Dev nD) : sProp 𝕄 :=
  iprop(semVal (barCell c) 0 ∗ (bigSepL peers fun r => zero (F := F) c (sendSem r)) ∗ bigSepL peers fun r => zero (F := F) c (recvSem r))

theorem peers_parts (Φ : Fin 15 → sProp 𝕄) : bigSepL peers Φ = iprop(bigSepL peersA Φ ∗ bigSepL [(11 : Fin 15), 12, 13] Φ ∗ Φ 14) := by
  rw [show peers = peersA ++ ([(11 : Fin 15), 12, 13] ++ [14]) from rfl, bigSepL_append, bigSepL_append, bigSepL_singleton]

/-- A conjunction of pairs over a list is a pair of conjunctions. -/
theorem list_sep {I : Type} (l : List I) (Φ Ψ : I → sProp 𝕄) : bigSepL l (fun i => iprop(Φ i ∗ Ψ i)) = iprop(bigSepL l Φ ∗ bigSepL l Ψ) := by
  induction l with
  | nil => exact (equiv_iff.mp emp_sep).symm
  | cons i l ih =>
    rw [bigSepL_cons', bigSepL_cons', bigSepL_cons', ih]
    have h1 : (iprop((Φ i ∗ Ψ i) ∗ bigSepL l Φ ∗ bigSepL l Ψ) : sProp 𝕄) ⊢ iprop((Φ i ∗ bigSepL l Φ) ∗ Ψ i ∗ bigSepL l Ψ) := by
      iintro ⟨⟨H1, H2⟩, H3, H4⟩
      isplitl [H1 H3]
      · isplitl [H1] <;> iassumption
      · isplitl [H2] <;> iassumption
    have h2 : (iprop((Φ i ∗ bigSepL l Φ) ∗ Ψ i ∗ bigSepL l Ψ) : sProp 𝕄) ⊢ iprop((Φ i ∗ Ψ i) ∗ bigSepL l Φ ∗ bigSepL l Ψ) := by
      iintro ⟨⟨H1, H3⟩, H2, H4⟩
      isplitl [H1 H2]
      · isplitl [H1] <;> iassumption
      · isplitl [H3] <;> iassumption
    exact equiv_iff.mp ⟨h1, h2⟩

/-- The first four loads have what they need. -/
theorem loads_ready (c : Dev nD) (f : S4x256x8192.Idx → Elt F .f32) :
    (iprop((bigSepL [(0 : Fin 16), 1, 2, 3] fun j => wPts m c (kb c j)) ∗ ((c : Thread nD τ).loc cc0_scratch2 ↦{fullShare} f)
        ∗ bigSepL quarters fun q => zero (F := F) c (loadSem q)) : sProp 𝕄)
      ⊢ bigSepL [(0 : Fin 16), 1, 2, 3] fun j => iprop(wPts m c (kb c j) ∗ slotFree (F := F) c (slotOf j)) := by
  rw [buf_split, quarters_all, list_sep]
  refine sep_mono_right ?_
  rw [← list_sep]
  have h : (bigSepL quarters (fun q => iprop(slotPts c q f ∗ zero (F := F) c (loadSem q))) : sProp 𝕄) ⊢ bigSepL quarters (slotFree (F := F) c) :=
    bigSepL_mono fun q _ => by
      unfold slotFree
      iintro ⟨H, H'⟩
      isplitl [H]; · iexists f; iexact H
      iexact H'
  exact h

/-- The slots after the last step are the buffer, and their counters are at zero. -/
theorem slots_back (c : Dev nD) :
    (iprop((bigSepL [(11 : Fin 15), 12, 13] fun r => slotFree (F := F) c (slotOf (stepOf r))) ∗ slotPts c 3 (WBUF m c 15) ∗ zero (F := F) c (loadSem 3)) : sProp 𝕄)
      ⊢ iprop((∃ f : Buf (Elt F) ((c : Thread nD τ).loc cc0_scratch2), ((c : Thread nD τ).loc cc0_scratch2) ↦{fullShare} f) ∗ bigSepL quarters fun q => zero (F := F) c (loadSem q)) := by
  have h : (bigSep Finset.univ (fun q => slotFree (F := F) c q) : sProp 𝕄)
      ⊢ iprop((∃ f : Buf (Elt F) ((c : Thread nD τ).loc cc0_scratch2), ((c : Thread nD τ).loc cc0_scratch2) ↦{fullShare} f) ∗ bigSepL quarters fun q => zero (F := F) c (loadSem q)) := by
    unfold slotFree
    rw [bigSep_sep', ← quarters_all]
    exact sep_mono_left (buf_join c (WBUF m c 15))
  refine BIBase.Entails.trans ?_ h
  rw [bigSep_univ_eq_bigSepL ([(11 : Fin 15), 12, 13].map (fun r => slotOf (stepOf r)) ++ [3]) (by decide) (by decide), bigSepL_append, bigSepL_map, bigSepL_singleton]
  refine sep_mono_right ?_
  unfold slotFree
  iintro ⟨H, H'⟩
  isplitl [H]; · iexists _; iexact H
  iexact H'

/-- One device runs the body: it leaves `w` and its block as they were, writes its result, owes nothing, and every counter is back at zero. -/
theorem body_run (c : Dev nD) :
    iprop(records m K ∗ levAts L lv ∗ exch (F := F) c ∗ locals (F := F) c
        ∗ ((c : Thread nD τ).loc main_arg1 ↦{fullShare} WIN m c) ∗ (∃ f, (c : Thread nD τ).loc main_v1 ↦{fullShare} f)
        ∗ scr (F := F) c ∗ stgPts m c ∗ ∃ W, owes (c : Thread nD τ) (O₀ c) W)
      ⊢ run c (canonAt (F := F) c) fun _ =>
        iprop(closed (F := F) c ∗ locals (F := F) c ∗ ((c : Thread nD τ).loc main_arg1 ↦{fullShare} WIN m c) ∗ ((c : Thread nD τ).loc main_v1 ↦{fullShare} OUT m c)
          ∗ scr (F := F) c ∗ stgPts m c ∗ owes0 (F := F) c) := by
  unfold exch locals scr
  iintro ⟨#HR, #Hlev, ⟨Hcb, Hab, Htg, Hts, Hrn, Has⟩, ⟨Hzl, Hzo⟩, Hw, Hv, ⟨⟨%f0, H0⟩, ⟨%f1, H1⟩, ⟨%f2, H2⟩, ⟨%f3, H3⟩⟩, Hx, HO⟩
  ihave Hw := (Entails.of_eq ((w_split m c).trans (devs_load c _))) $$ Hw
  icases Hw with ⟨Hw, Hw4, HwA⟩
  ihave Hl := (loads_ready m c f2) $$ [Hw H2 Hzl]
  · isplitl [Hw]; · iexact Hw
    isplitl [H2]; · iexact H2
    iexact Hzl
  unfold canonAt
  iapply (start_run m K c) $$ [Hl Hx H0 H1 HO Hcb Hab Htg Hts]
  · isplitr; · iexact HR
    isplitr; · iexact Hlev
    isplitl [Hl]; · iexact Hl
    isplitl [Hx]; · iexact Hx
    isplitl [H0]; · iexists f0; unfold xbfPts; iexact H0
    isplitl [H1]; · iexists f1; iexact H1
    isplitl [HO]; · iexact HO
    isplitl [Hcb]; · iexact Hcb
    isplitl [Hab]; · iexact Hab
    isplitl [Htg] <;> iassumption
  iintro ⟨Hf, Hx, HO, Hzb, Hxb0, Hr0, Hcs⟩
  ihave Hrn := (Entails.of_eq (peers_parts (F := F) (rcvNeed c))) $$ Hrn
  icases Hrn with ⟨HnA, HnB, Hn14⟩
  ihave HA := (Entails.of_eq (list_sep (F := F) peersA (rcvNeed c) (fun r => wPts m c (kb c (nextOf r)))).symm) $$ [HnA HwA]
  · isplitl [HnA] <;> iassumption
  iapply (middle_run m K c) $$ [Hf HO Hr0 H3 Hw4 HA HnB Hn14]
  · isplitr; · iexact HR
    isplitl [Hf]; · iexact Hf
    isplitl [HO]; · iexact HO
    isplitl [Hr0]; · rw [kb_zero]; iexact Hr0
    isplitl [H3]; · iexists f3; unfold accPts; iexact H3
    isplitl [Hw4]; · iexact Hw4
    isplitl [HA]; · iexact HA
    isplitl [HnB] <;> iassumption
  iintro ⟨⟨Hr0, Hw0⟩, HA, HB, Hrs, Hz3, Hzr, Hw15, HO, Ha⟩
  ihave Hsn := (Entails.of_eq (list_sep (F := F) peers (fun r => cred (tallyAt (sendCell c r) () N)) (fun r => atPos ER (sendCell c r) 0 ∅ 0)).symm) $$ [Hcs Has]
  · isplitl [Hcs] <;> iassumption
  iapply (wp_wand_r)
  isplitl [HO Ha Hrs Hv Hzo Hsn]
  · iapply (end_run m K c)
    isplitr; · iexact HR
    isplitl [HO]; · iexact HO
    isplitl [Ha]; · iexact Ha
    isplitl [Hrs]; · iexact Hrs
    isplitl [Hv]; · iexact Hv
    isplitl [Hzo]; · iexact Hzo
    unfold sentNeed
    iexact Hsn
  iintro %_ ⟨HO, Ha, ⟨Hr15, Hs3⟩, Hv, Hzo, Hsd⟩
  ihave HA := (Entails.of_eq ((list_sep (F := F) peersA _ _).trans (congrArg (fun X => iprop(_ ∗ X)) (list_sep (F := F) peersA _ _)))) $$ HA
  icases HA with ⟨HrA, HzA, HwA⟩
  ihave HB := (Entails.of_eq ((list_sep (F := F) [(11 : Fin 15), 12, 13] _ _).trans (congrArg (fun X => iprop(_ ∗ X))
    ((list_sep (F := F) [(11 : Fin 15), 12, 13] _ _).trans (congrArg (fun X => iprop(_ ∗ X)) (list_sep (F := F) [(11 : Fin 15), 12, 13] _ _)))))) $$ HB
  icases HB with ⟨HsB, HrB, HzB, HwB⟩
  ihave Hsd := (Entails.of_eq (list_sep (F := F) peers _ _)) $$ Hsd
  icases Hsd with ⟨Hxb, Hzs⟩
  ihave H2 := (slots_back m c) $$ [HsB Hs3 Hz3]
  · isplitl [HsB]; · iexact HsB
    isplitl [Hs3] <;> iassumption
  icases H2 with ⟨H2, Hzl⟩
  isplitl [Hzb Hzs HzA HzB Hzr]
  · unfold closed
    isplitl [Hzb]; · iexact Hzb
    isplitl [Hzs]; · iexact Hzs
    iapply (Entails.of_eq (peers_parts (F := F) (fun r => zero c (recvSem r))).symm)
    isplitl [HzA]; · iexact HzA
    isplitl [HzB] <;> iassumption
  isplitl [Hzl Hzo]
  · isplitl [Hzl] <;> iassumption
  isplitl [Hw0 HwA HwB Hw15]
  · iapply (Entails.of_eq ((w_split m c).trans (devs_step c _)).symm)
    isplitl [Hw0]; · iexact Hw0
    isplitl [HwA]; · iexact HwA
    isplitl [HwB] <;> iassumption
  isplitl [Hv]; · iexact Hv
  isplitl [Hxb0 Hxb Hr0 HrA HrB Hr15 H2 Ha]
  · isplitl [Hxb0 Hxb]
    · ihave H0 := (Entails.of_eq ((xbf_split m c).trans (devs_nx c _)).symm) $$ [Hxb0 Hxb]
      · isplitl [Hxb0] <;> iassumption
      iexists (XBF m c)
      unfold xbfPts
      iexact H0
    isplitl [Hr0 HrA HrB Hr15]
    · iexists (XROW m c)
      iapply (Entails.of_eq ((row_split c (XROW m c)).trans (devs_step c _)).symm)
      isplitl [Hr0]; · iexact Hr0
      isplitl [HrA]; · iexact HrA
      isplitl [HrB] <;> iassumption
    isplitl [H2]; · iexact H2
    iexists (OUT m c)
    unfold accPts
    iexact Ha
  isplitl [Hx] <;> iassumption

end Cert.KernelIdeal.A2a
end
-- ==== Proof.Deal.lean ====
module

public import proofs.«01_k».proof.Proof.Whole
public import proofs.«01_k».proof.Proof.Gen.KernelIdeal.Points

/-!
# Dealing the exchange at launch

The cells of the exchange, their duties and the credit that the devices owe each other at launch are dealt to the
devices: a device gets its own cells' positions and the duties it pays at its peers' cells.
-/

@[expose] public section

set_option maxRecDepth 16384

noncomputable section

namespace Cert.KernelIdeal.A2a

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The kernel's own semaphores -/

/-- The index of the kernel's own semaphores: two that it never uses, the exchange's, the loads', the writes'. -/
abbrev Own : Type := (Fin 2 ⊕ (Bool × Fin 15)) ⊕ (Fin 4 ⊕ Fin 4)
/-- The kernel's own semaphores. -/
abbrev osem : Own → SemLoc sig
  | .inl (.inl 0) => .dma (1 : Fin 41)
  | .inl (.inl 1) => .dma (17 : Fin 41)
  | .inl (.inr (b, r)) => csem (some (b, r))
  | .inr (.inl q) => .dma (loadSem q)
  | .inr (.inr q) => .dma (outSem q)

theorem ownSemFacts : Pipeline.OwnSemFacts cfg0.spec osem := by decide +kernel

/-- The counters that the kernel never uses, at zero. -/
def spare (c : Dev nD) : sProp 𝕄 := bigSep Finset.univ fun i : Fin 2 => semVal ((c : Thread nD τ), osem (.inl (.inl i))) 0

theorem ownSems0_eq (c : Dev nD) : (Pipeline.ownSems0 (Ix := Unit) (Name := ℕ) (U := UU) (Lvl := ℕ) (Val := Elt F) (τ := τ) osem c : sProp 𝕄)
    = iprop((spare (F := F) c ∗ bigSep Finset.univ fun k : Bool × Fin 15 => semVal (kcell (c, some k)) 0) ∗ locals (F := F) c) := by
  unfold Pipeline.ownSems0 spare locals
  rw [bigSep_univ_sum, bigSep_univ_sum, bigSep_univ_sum, ← quarters_all, ← quarters_all]
  rfl
theorem unscopedSems0_eq (c : Dev nD) : (unscopedSems0 c : sProp 𝕄) = semVal (barCell c) 0 := by
  unfold unscopedSems0; rw [bigSep_eq_bigSepL_of_eq [SemLoc.reg barSem] (by decide) (by decide)]; rfl

/-- The cells of a device one by one. -/
theorem cells_all (Φ : Option (Bool × Fin 15) → sProp 𝕄) :
    bigSep Finset.univ Φ = iprop(Φ none ∗ (bigSepL peers fun r => Φ (some (false, r))) ∗ bigSepL peers fun r => Φ (some (true, r))) := by
  rw [bigSep_univ_eq_bigSepL (none :: (peers.map (fun r => some (false, r)) ++ peers.map (fun r => some (true, r)))) (by decide +kernel) (by decide +kernel),
    bigSepL_cons', bigSepL_append, bigSepL_map, bigSepL_map]
theorem pairs_all (Φ : Bool × Fin 15 → sProp 𝕄) :
    bigSep Finset.univ Φ = iprop((bigSepL peers fun r => Φ (false, r)) ∗ bigSepL peers fun r => Φ (true, r)) := by
  rw [bigSep_univ_eq_bigSepL (peers.map (fun r => (false, r)) ++ peers.map (fun r => (true, r))) (by decide +kernel) (by decide +kernel),
    bigSepL_append, bigSepL_map, bigSepL_map]

theorem ownSems0_list (c : Dev nD) : (Pipeline.ownSems0 (Ix := Unit) (Name := ℕ) (U := UU) (Lvl := ℕ) (Val := Elt F) (τ := τ) osem c : sProp 𝕄)
    = iprop((spare (F := F) c ∗ (bigSepL peers fun r => zero (F := F) c (sendSem r)) ∗ bigSepL peers fun r => zero (F := F) c (recvSem r)) ∗ locals (F := F) c) := by
  rw [ownSems0_eq, pairs_all]

/-! ## The cells and their duties -/

theorem csem_injective : Function.Injective csem := by decide +kernel
theorem kcell_injective : Function.Injective (kcell : Dev nD × Option (Bool × Fin 15) → GSem nD τ sig) := by
  rintro ⟨c, k⟩ ⟨c', k'⟩ h
  have h1 : c = c' := by have := congrArg (fun g : GSem nD τ sig => g.1.1) h; exact this
  have h2 : csem k = csem k' := congrArg Prod.snd h
  rw [h1, csem_injective h2]
def exchCells : Finset (GSem nD τ sig) := Finset.univ.map ⟨kcell, kcell_injective⟩

/-- Every duty of the exchange: the barrier's fifteen, each send's, each receive's. -/
abbrev tokAt : Fin 3 × Fin 15 → SemLoc sig × Fin 15
  | (0, d) => (.reg barSem, d)
  | (1, r) => (.dma (sendSem r), 0)
  | (2, r) => (.dma (recvSem r), 0)
abbrev tokOf (cj : Dev nD × (Fin 3 × Fin 15)) : GSem nD τ sig × ℕ × Fin 15 := (((cj.1 : Thread nD τ), (tokAt cj.2).1), 0, (tokAt cj.2).2)
theorem tokAt_injective : Function.Injective tokAt := by decide +kernel
theorem tokOf_injective : Function.Injective (tokOf : Dev nD × (Fin 3 × Fin 15) → GSem nD τ sig × ℕ × Fin 15) := by
  rintro ⟨c, j⟩ ⟨c', j'⟩ h
  have h1 : c = c' := by have := congrArg (fun x : GSem nD τ sig × ℕ × Fin 15 => x.1.1.1) h; exact this
  have h2 : tokAt j = tokAt j' := congrArg (fun x : GSem nD τ sig × ℕ × Fin 15 => (x.1.2, x.2.2)) h
  rw [h1, tokAt_injective h2]
def exchToks : Finset (GSem nD τ sig × ℕ × Fin 15) := Finset.univ.map ⟨tokOf, tokOf_injective⟩

def u₀ : UU :=
  (initOf (Pipeline.cells cfgs cellOf_inj) (Pipeline.launchToks cfgs cellOf_inj), (initOf exchCells exchToks, 1))

/-- The duties of device `c`'s own cells. -/
def toks (c : Dev nD) : sProp 𝕄 :=
  iprop((bigSep Finset.univ fun d : Fin 15 => dutyTok ER (barCell c) 0 d) ∗ (bigSep Finset.univ fun r : Fin 15 => dutyTok ER (sendCell c r) 0 0)
    ∗ bigSep Finset.univ fun r : Fin 15 => dutyTok ER (recvCell c r) 0 0)

/-- What the launch's element deals device `c`. -/
def G (c : Dev nD) : sProp 𝕄 :=
  iprop((bigSep Finset.univ fun k : Option (Bool × Fin 15) => roundState ER (Rd m) (kcell (c, k)) 0)
    ∗ (bigSep Finset.univ fun k : Option (Bool × Fin 15) => iprop(atPos ER (kcell (c, k)) 0 ∅ 0 ∗ reached ER (kcell (c, k)) 0)) ∗ toks (F := F) c)

/-- What stays with device `c`: its positions, the duties it pays, the counters of its local transfers. -/
def linear (c : Dev nD) : sProp 𝕄 :=
  iprop((bigSep Finset.univ fun k : Option (Bool × Fin 15) => atPos ER (kcell (c, k)) 0 ∅ 0)
    ∗ ((bigSep Finset.univ fun r => sigTok (F := F) c r) ∗ bigSep Finset.univ fun r => sndToks (F := F) c r) ∗ spare (F := F) c ∗ locals (F := F) c)

/-- What device `c` holds of the exchange after the deal. -/
def G' (c : Dev nD) : sProp 𝕄 := iprop(∃ K, records m K ∗ linear (F := F) c)

theorem fund_exch : BI.own (ER (initOf exchCells exchToks)) ⊢ (|==> bigSep Finset.univ (G m) : sProp 𝕄) := by
  have hX (Φ : GSem nD τ sig → sProp 𝕄) : bigSep exchCells Φ = bigSep Finset.univ fun c : Dev nD => bigSep Finset.univ fun k : Option (Bool × Fin 15) => Φ (kcell (c, k)) := by
    unfold exchCells; rw [bigSep_map, bigSep_univ_prod]; rfl
  have h3 (Φ : Fin 3 → sProp 𝕄) : bigSep Finset.univ Φ = iprop(Φ 0 ∗ Φ 1 ∗ Φ 2) := bigSep_univ_eq_bigSepL [0, 1, 2] (by decide) (by decide) Φ
  have hT : bigSep exchToks (fun x => (dutyTok ER x.1 x.2.1 x.2.2 : sProp 𝕄)) = bigSep Finset.univ fun c : Dev nD => toks (F := F) c := by
    unfold exchToks; rw [bigSep_map, bigSep_univ_prod]
    exact bigSep_congr fun c _ => by unfold toks; rw [bigSep_univ_prod, h3]; rfl
  iintro HX
  imod (Rounds.fund ER (Rd m) exchCells exchToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Option (Bool × Fin 15) => semVal (kcell (c, k)) 0) ∗ spare (F := F) c ∗ locals (F := F) c) : sProp 𝕄) := by
  rw [ownSems0_list, unscopedSems0_eq, cells_all]
  iintro ⟨⟨⟨Hsp, HS, HV⟩, Hl⟩, HB⟩
  isplitl [HB HS HV]
  · isplitl [HB]; · iexact HB
    isplitl [HS] <;> iassumption
  isplitl [Hsp] <;> iassumption

/-- Device `c`'s cells get their invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks (F := F) c ∗ spare (F := F) c ∗ locals (F := F) c) := by
  unfold G
  iintro ⟨Hos, Hus, Hst, Hat, Htok⟩
  ihave Hv := (sems0_eq (F := F) c) $$ [Hos Hus]
  · isplitl [Hos] <;> iassumption
  icases Hv with ⟨Hv, Hsp, Hl⟩
  imod (show iprop((bigSep Finset.univ fun k : Option (Bool × Fin 15) => semVal (kcell (c, k)) 0) ∗ bigSep Finset.univ fun k : Option (Bool × Fin 15) => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  isplitl [Hsp] <;> iassumption

/-- From a peer and the number of a signal to the cell it goes to and the duty it pays there. -/
def sigEquiv : Dev nD × Fin 15 ≃ Dev nD × Fin 15 where
  toFun x := (nx x.1 x.2, opp x.2)
  invFun x := (nx x.1 x.2, opp x.2)
  left_inv x := by rcases x with ⟨c, r⟩; show (nx (nx c r) (opp r), opp (opp r)) = (c, r); rw [nx_opp, opp_opp]
  right_inv x := by rcases x with ⟨c, r⟩; show (nx (nx c r) (opp r), opp (opp r)) = (c, r); rw [nx_opp, opp_opp]
/-- From a device and the number of a send to the receive cell it fills. -/
def sndEquiv : Dev nD × Fin 15 ≃ Dev nD × Fin 15 where
  toFun x := (nx x.1 x.2, x.2)
  invFun x := (pr x.1 x.2, x.2)
  left_inv x := by rcases x with ⟨c, r⟩; show (pr (nx c r) r, r) = (c, r); rw [pr_nx]
  right_inv x := by rcases x with ⟨c, r⟩; show (nx (pr c r) r, r) = (c, r); rw [nx_pr]

/-- The duties go to the devices that pay them. -/
theorem toks_around : (bigSep Finset.univ fun c : Dev nD => (toks (F := F) c : sProp 𝕄))
    ⊢ bigSep Finset.univ fun c : Dev nD => iprop((bigSep Finset.univ fun r => sigTok (F := F) c r) ∗ bigSep Finset.univ fun r => sndToks (F := F) c r) := by
  have hb : (bigSep Finset.univ fun c : Dev nD => bigSep Finset.univ fun d : Fin 15 => (dutyTok ER (barCell c) 0 d : sProp 𝕄))
      = bigSep Finset.univ fun c : Dev nD => bigSep Finset.univ fun r => sigTok (F := F) c r := by
    rw [← bigSep_univ_prod (fun x : Dev nD × Fin 15 => (dutyTok ER (barCell x.1) 0 x.2 : sProp 𝕄)), bigSep_univ_equiv sigEquiv, bigSep_univ_prod]
    rfl
  have hr : (bigSep Finset.univ fun c : Dev nD => bigSep Finset.univ fun r : Fin 15 => (dutyTok ER (recvCell c r) 0 0 : sProp 𝕄))
      = bigSep Finset.univ fun c : Dev nD => bigSep Finset.univ fun r => (dutyTok ER (recvCell (nx c r) r) 0 0 : sProp 𝕄) := by
    rw [← bigSep_univ_prod (fun x : Dev nD × Fin 15 => (dutyTok ER (recvCell x.1 x.2) 0 0 : sProp 𝕄)), bigSep_univ_equiv sndEquiv, bigSep_univ_prod]
    rfl
  have hs : (bigSep Finset.univ fun c : Dev nD => bigSep Finset.univ fun r => sndToks (F := F) c r)
      = iprop((bigSep Finset.univ fun c : Dev nD => bigSep Finset.univ fun r : Fin 15 => (dutyTok ER (sendCell c r) 0 0 : sProp 𝕄))
        ∗ bigSep Finset.univ fun c : Dev nD => bigSep Finset.univ fun r => (dutyTok ER (recvCell (nx c r) r) 0 0 : sProp 𝕄)) := by
    unfold sndToks
    rw [← bigSep_sep']
    exact bigSep_congr fun c _ => bigSep_sep' _ _ _
  unfold toks
  rw [bigSep_sep', bigSep_sep', bigSep_sep', hb, hr, hs]

/-- A persistent fact goes to every index. -/
theorem all_with {I : Type} [Fintype I] [DecidableEq I] {R : sProp 𝕄} [BI.Persistent R] {Φ Ψ : I → sProp 𝕄}
    (h : ∀ i, iprop(R ∗ Φ i) ⊢ Ψ i) : iprop(R ∗ bigSep Finset.univ Φ) ⊢ bigSep Finset.univ Ψ :=
  (sep_mono_left (BI.bigSep_of_persistent Finset.univ R)).trans (by rw [← bigSep_sep']; exact all_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks (F := F) c ∗ spare (F := F) c ∗ locals (F := F) c) : sProp 𝕄)
      ⊢ bigSep Finset.univ (G' m) := by
  rw [bigSep_sep', bigSep_sep', bigSep_sep', bigSep_sep', ← bigSep_univ_prod (fun ck : Dev nD × Option (Bool × Fin 15) => iprop(∃ κ : ℕ, cellInv ER (Rd m) κ (kcell ck))),
    bigSep_congr (s := Finset.univ) (fun (c : Dev nD) _ => bigSep_sep' Finset.univ (fun k : Option (Bool × Fin 15) => (atPos ER (kcell (c, k)) 0 ∅ 0 : sProp 𝕄)) (fun k => reached ER (kcell (c, k)) 0)),
    bigSep_sep', ← bigSep_univ_prod (fun ck : Dev nD × Option (Bool × Fin 15) => (reached ER (kcell ck) 0 : sProp 𝕄))]
  iintro ⟨HI, ⟨Hat, #HR⟩, Htok, Hl⟩
  ihave HK := (BI.bigSep_exists_pi Finset.univ (fun (ck : Dev nD × Option (Bool × Fin 15)) (κ : ℕ) => (cellInv ER (Rd m) κ (kcell ck) : sProp 𝕄))) $$ HI
  icases HK with ⟨%K, #HI⟩
  ihave Htk := (toks_around (F := F)) $$ Htok
  have hg : ∀ c : Dev nD, (iprop(records m K ∗ linear (F := F) c) : sProp 𝕄) ⊢ G' m c := fun c => by
    unfold G'
    iintro H
    iexists K
    iexact H
  have hl : (iprop((bigSep Finset.univ fun c : Dev nD => bigSep Finset.univ fun k : Option (Bool × Fin 15) => atPos ER (kcell (c, k)) 0 ∅ 0)
      ∗ (bigSep Finset.univ fun c : Dev nD => iprop((bigSep Finset.univ fun r => sigTok (F := F) c r) ∗ bigSep Finset.univ fun r => sndToks (F := F) c r))
      ∗ (bigSep Finset.univ fun c : Dev nD => spare (F := F) c) ∗ bigSep Finset.univ fun c : Dev nD => locals (F := F) c) : sProp 𝕄)
      ⊢ bigSep Finset.univ fun c : Dev nD => linear (F := F) c := by
    unfold linear
    rw [← bigSep_sep', ← bigSep_sep', ← bigSep_sep']
  iapply (all_with (R := records m K) hg)
  isplitr
  · unfold records; isplitl; · iexact HI
    iexact HR
  · iapply hl
    isplitl [Hat]; · iexact Hat
    isplitl [Htk]; · iexact Htk
    iexact Hl

/-- The deal: every device's own counters and cells at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

/-- A sum of tallies, read at a cell. -/
theorem tallies_at (f : Fin 15 → GSem nD τ sig) (n : ℕ) (g : GSem nD τ sig) :
    (peers.map fun r => (tallyAt (f r) () n : CellTallies nD τ sig Unit)).sum g () = ∑ r : Fin 15, if g = f r then n else 0 := by
  rw [show (∑ r : Fin 15, if g = f r then n else 0) = (peers.map fun r => if g = f r then n else 0).sum from Fin.sum_univ_def _]
  generalize peers = l
  induction l with
  | nil => rfl
  | cons a l ih =>
    rw [List.map_cons, List.sum_cons, List.map_cons, List.sum_cons, Pi.add_apply, Finsupp.add_apply, ih, tallyAt_apply]
    by_cases h : g = f a <;> simp [h]

theorem bar_eq_iff {a b : Dev nD} : barCell a = barCell b ↔ a = b :=
  ⟨fun h => Fin.ext (congrArg (fun g : GSem nD τ sig => g.1.1.val) h), fun h => h ▸ rfl⟩
theorem recv_eq_iff {a b : Dev nD} {r r' : Fin 15} : recvCell a r = recvCell b r' ↔ a = b ∧ r = r' :=
  ⟨fun h => by
    have h' := @kcell_injective (a, some (true, r)) (b, some (true, r')) h
    have h1 := congrArg Prod.fst h'
    have h2 := congrArg (fun x : Dev nD × Option (Bool × Fin 15) => (x.2.map Prod.snd).getD 0) h'
    exact ⟨h1, h2⟩, fun ⟨h, h'⟩ => by rw [h, h']⟩
theorem bar_ne_recv {a b : Dev nD} {r : Fin 15} : barCell a ≠ recvCell b r := fun h => by
  have h' : SemLoc.reg barSem = SemLoc.dma (recvSem r) := congrArg Prod.snd h
  cases h'

theorem owed_bar (d c : Dev nD) : O₀ d (barCell c) () = if d = c then 0 else 1 := by
  unfold O₀ owR owB
  rw [Pi.add_apply, Finsupp.add_apply, tallies_at, tallies_at, Finset.sum_eq_zero fun r _ => if_neg bar_ne_recv, Nat.zero_add,
    Finset.sum_congr rfl fun r _ => if_congr bar_eq_iff rfl rfl]
  revert d c
  decide +kernel

theorem owed_recv (d c : Dev nD) (r : Fin 15) : O₀ d (recvCell c r) () = if d = pr c r then N else 0 := by
  unfold O₀ owR owB
  rw [Pi.add_apply, Finsupp.add_apply, tallies_at, tallies_at, Finset.sum_eq_zero (f := fun r' => if recvCell c r = barCell (nx d r') then 1 else 0) fun r' _ => if_neg bar_ne_recv.symm, Nat.add_zero,
    Finset.sum_congr rfl fun r' _ => if_congr recv_eq_iff rfl rfl]
  by_cases h : d = pr c r
  · subst h
    rw [if_pos rfl, Finset.sum_eq_single r (fun r' _ hr => if_neg fun ⟨_, e⟩ => hr e.symm) (fun h => absurd (Finset.mem_univ _) h), if_pos ⟨(nx_pr c r).symm, rfl⟩]
  · rw [if_neg h]
    exact Finset.sum_eq_zero fun r' _ => if_neg fun ⟨e, e'⟩ => h (by subst e'; rw [e, pr_nx])

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c]
  revert c
  decide +kernel
theorem launch_recv (c : Dev nD) (r : Fin 15) :
    tallyOn (recvCell c r) (launchCredit (Pipeline.owing O₀) 0 (recvCell c r)) = (tallyAt (recvCell c r) () N : CellTallies nD τ sig Unit) := by
  unfold tallyAt; refine congrArg _ (Finsupp.ext fun u => ?_); cases u
  rw [Pipeline.launchCredit_owing, Finsupp.single_eq_same, Finset.sum_congr rfl fun d _ => owed_recv d c r, Finset.sum_ite_eq' Finset.univ (pr c r) fun _ => N,
    if_pos (Finset.mem_univ _)]

/-- The credit that device `c` gets at launch: its barrier's fifteen units and each receive's. -/
theorem creds (c : Dev nD) :
    (Pipeline.launchCred O₀ c : sProp 𝕄) ⊢ iprop(cred (tallyAt (barCell c) () 15) ∗ bigSepL peers fun r => cred (tallyAt (recvCell c r) () N)) := by
  unfold Pipeline.launchCred
  refine BIBase.Entails.trans (bigSep_subset (Finset.subset_univ (SemLoc.reg barSem :: peers.map fun r => SemLoc.dma (recvSem r)).toFinset)) ?_
  rw [bigSep_eq_bigSepL _ (by decide +kernel), bigSepL_cons', bigSepL_map, launch_bar]
  refine sep_mono_right (bigSepL_mono fun r _ => ?_)
  rw [← launch_recv]

end Cert.KernelIdeal.A2a
end
-- ==== Proof.Run.lean ====
module

public import proofs.«01_k».proof.Proof.Deal
public import Idealize.ShloMosaic.Lib.Quiescent
public import Idealize.ShloMosaic.Lib.Pipeline.CollectiveSegs

/-!
# The run of the whole program

Every device stages its block, runs the body and ends with its result written, its arguments as they were and every
semaphore at zero.
-/

@[expose] public section

set_option maxRecDepth 16384

noncomputable section

namespace Cert.KernelIdeal.A2a

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-- What a device holds when its region begins. -/
def start (c : Dev nD) : sProp 𝕄 :=
  iprop(G' m c ∗ (cred (tallyAt (barCell c) () 15) ∗ bigSepL peers fun r => cred (tallyAt (recvCell c r) () N)) ∗ levAts L lv
    ∗ ((c : Thread nD τ).loc main_arg1 ↦{fullShare} WIN m c) ∗ ∃ f : Buf (Elt F) ((c : Thread nD τ).loc main_v1), (c : Thread nD τ).loc main_v1 ↦{fullShare} f)

/-- What a device's region carries in. -/
def Φ₀ (c : Dev nD) : sProp 𝕄 := iprop(start m c ∗ scr (F := F) c)
/-- What a device's region leaves. -/
def Φ₁ (c : Dev nD) : sProp 𝕄 :=
  iprop(spare (F := F) c ∗ closed (F := F) c ∗ locals (F := F) c ∗ ((c : Thread nD τ).loc main_arg1 ↦{fullShare} WIN m c)
    ∗ ((c : Thread nD τ).loc main_v1 ↦{fullShare} OUT m c) ∗ scr (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => XIN m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The one window's block is its whole array. -/
theorem block_read (f : S4096x256.Idx → Elt F .f32) : ((cfg0.win 0).blk t0_0).view.read (Elt F) f = f := by
  funext i
  have h : ∀ a, ((((cfg0.win 0).blk t0_0).view.emb i : S4096x256.Idx) a).val = ((i : S4096x256.Idx) a).val := fun a => by
    rw [show ((((cfg0.win 0).blk t0_0).view.emb i : S4096x256.Idx) a).val = _ from ValueKit.rect_emb_unit_val _ _ _ _ _]
    match a with
    | ⟨0, _⟩ => exact Nat.zero_add _
    | ⟨1, _⟩ => exact Nat.zero_add _
  exact congrArg f (idx2_ext (h 0) (h 1))

/-- The staging buffer of device `c` whole, at contents `X`. -/
def stg (c : Dev nD) (X : (cc0_stg0_0 : Ref sig .tc).ty.Contents (Elt F)) : sProp 𝕄 :=
  iprop(∃ f : Buf (Elt F) ((c : Thread nD τ).loc cc0_stg0_0), ⌜f = X⌝ ∗ (((c : Thread nD τ).loc cc0_stg0_0) ↦{fullShare} f))

def bodyPre (c : Dev nD) : sProp 𝕄 :=
  iprop(Φ₀ m c ∗ (dats m ρ 0 c).owesAt () t0_0.castSucc ∗ ∃ d, stg (F := F) c ((dats m ρ 0 c).before (0 : Fin 1) t0_0 d))
def bodyPost (c : Dev nD) : sProp 𝕄 :=
  iprop(Φ₁ m c ∗ (dats m ρ 0 c).owesAt () t0_0.succ ∗ stg (F := F) c (XIN m c))

/-- The body, from what the region gives it to what the region takes back. -/
theorem sound_body (c : Dev nD) : bodyPre m ρ c ⊢ run c (canon (F := F)) fun _ => bodyPost m ρ c := by
  unfold bodyPre bodyPost Φ₀ start G' linear Dat.owesAt Pipeline.owesWithin stg
  iintro ⟨⟨⟨⟨%K, #HR, Hat, ⟨Htg, Hts⟩, Hsp, Hl⟩, ⟨Hcb, Hcr⟩, #Hlev, Hw, Hv⟩, Hscr⟩, ⟨%W, %hW, HO⟩, ⟨%d, %f, %hf, Hx⟩⟩
  have hx : f = XIN m c := by rw [hf]; unfold Dat.before; rw [if_pos (fetch0_0 t0_0)]; exact block_read (F := F) _
  subst hx
  unfold canon
  simp only [run, Prog.lift, Prog.bind_op, Prog.bind_ret]
  rw [wp_deviceId]
  ihave Hat := (Entails.of_eq (cells_all (F := F) _)) $$ Hat
  icases Hat with ⟨Hab, Has, Har⟩
  iapply (wp_wand_r)
  isplitl [Hcb Hcr Hab Has Har Htg Hts Hl Hw Hv Hscr Hx HO]
  · iapply (body_run m K c)
    isplitr; · iexact HR
    isplitr; · iexact Hlev
    isplitl [Hcb Hcr Hab Has Har Htg Hts]
    · unfold exch
      isplitl [Hcb]; · iexact Hcb
      isplitl [Hab]; · iexact Hab
      isplitl [Htg]; · iapply (Entails.of_eq (peers_all (F := F) _)); iexact Htg
      isplitl [Hts]; · iapply (Entails.of_eq (peers_all (F := F) _)); iexact Hts
      isplitl [Hcr Har]
      · iapply (Entails.of_eq (list_sep (F := F) peers (fun r => cred (tallyAt (recvCell c r) () N)) (fun r => atPos ER (recvCell c r) 0 ∅ 0)).symm)
        isplitl [Hcr]; · iexact Hcr
        iexact Har
      iexact Has
    isplitl [Hl]; · iexact Hl
    isplitl [Hw]; · iexact Hw
    isplitl [Hv]; · iexact Hv
    isplitl [Hscr]; · iexact Hscr
    isplitl [Hx]; · unfold stgPts; iexact Hx
    iexists W; iexact HO
  unfold Φ₁ owes0 stgPts
  iintro %_ ⟨Hc, Hl, Hw, Hv, Hscr, Hx, ⟨%W', HO⟩⟩
  isplitl [Hsp Hc Hl Hw Hv Hscr]
  · isplitl [Hsp]; · iexact Hsp
    isplitl [Hc]; · iexact Hc
    isplitl [Hl]; · iexact Hl
    isplitl [Hw]; · iexact Hw
    isplitl [Hv] <;> iassumption
  isplitl [HO]
  · iexists W'
    isplitr; · ipureintro; exact fun _ _ => Or.inl trivial
    iexact HO
  iexists _; isplitr; · (ipureintro; rfl)
  iexact Hx

set_option maxRecDepth 65536 in
/-- The library's body obligation on device `c`. -/
theorem body_obligation (c : Dev nD) : BodyObligation (dats (F := F) m ρ 0 c) (defs₀ (F := F)) 𝒱₀ () Set.univ := fun t => by
  rw [show t = t0_0 from fin_N0 t]
  rw [bigSep_W0, bigSep_W0]
  simp only [owns_whole_eq]
  have h := sound_body m ρ c
  rw [← body_eq_canon t0_0] at h
  exact h

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hw, Hv⟩, Hlev, Hcr, -, HG⟩
  ihave Hc := (creds (F := F) c) $$ Hcr
  imodintro
  unfold start
  isplitl
  · isplitl [HG]; · iexact HG
    isplitl [Hc]; · iexact Hc
    isplitl [Hlev]; · iexact Hlev
    isplitl [Hw]; · iexact Hw
    iexists _; iexact Hv
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

/-- What a device's region leaves outside its scope. -/
def left (c : Dev nD) : sProp 𝕄 :=
  iprop(unscopedSems0 c ∗ ((c : Thread nD τ).loc main_arg1 ↦{fullShare} WIN m c) ∗ ((c : Thread nD τ).loc main_v1 ↦{fullShare} OUT m c))

theorem phi1_exit (c : Dev nD) :
    (dats m ρ 0 c).Φ (Fin.last cfg0.N) ⊢ iprop(left m c ∗ Pipeline.ownSems0 osem c ∗ Pipeline.scopedRest cfg0.spec c) := by
  rw [show (dats m ρ 0 c).Φ (Fin.last cfg0.N) = Φ₁ m c from rfl, scopedRest0_eq, ownSems0_list]
  unfold Φ₁ left closed scr
  rw [unscopedSems0_eq]
  iintro ⟨Hsp, ⟨HzB, HzS, HzV⟩, Hl, Hw, Hv, Hr⟩
  isplitl [HzB Hw Hv]
  · isplitl [HzB]; · iexact HzB
    isplitl [Hw] <;> iassumption
  isplitl [Hsp HzS HzV Hl]
  · isplitl [Hsp HzS HzV]
    · isplitl [Hsp]; · iexact Hsp
      isplitl [HzS] <;> iassumption
    iexact Hl
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- At the end every device's block and `w` are as they were and its result is written. -/
def QC : PUnit × MemSt nD τ sig (Elt F) → Prop := fun r =>
  ∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_v1) = OUT m c

/-- What is read at the end of device `c`. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1) ∧ s.mem ((c : Thread nD τ).loc main_v1) = OUT m c

/-- A buffer held whole is read. -/
theorem read_one (ℓ : Loc nD τ sig) (f : Buf (Elt F) ℓ) (s' : Phys nD τ sig (Elt F)) :
    (iprop((ℓ ↦{fullShare} f) ∗ SI s') : sProp 𝕄) ⊢ iprop(⌜s'.mem.mem ℓ = f⌝ ∗ SI s') := by
  have h := pointsTo_read_all (Ix := Unit) (Name := ℕ) (U := UU) (Lvl := ℕ) ({()} : Finset Unit) (fun _ => ℓ) (fun _ => f) s'
  rw [bigSep_singleton] at h
  iintro H
  ihave H := h $$ H
  icases H with ⟨%h, H⟩
  isplitr; · ipureintro; exact h () (Finset.mem_singleton_self _)
  iexact H

theorem left_read (c : Dev nD) (s' : Phys nD τ sig (Elt F)) :
    (iprop(left m c ∗ emp ∗ SI s') : sProp 𝕄) ⊢ |={Set.univ}=> iprop(⌜QY m c s'.mem⌝ ∗ SI s') := by
  unfold left
  iintro ⟨⟨Hu, Hw, Hv⟩, -, HSI⟩
  ihave H := (read_one _ _ s') $$ [Hw HSI]
  · isplitl [Hw] <;> iassumption
  icases H with ⟨%h1, HSI⟩
  ihave H := (read_one _ _ s') $$ [Hv HSI]
  · isplitl [Hv] <;> iassumption
  icases H with ⟨%h2, HSI⟩
  imod (Pipeline.unscopedSems0_read (X := unscopedSems0 c) (c := c) fupd_intro s') $$ [Hu HSI] with ⟨%h3, HSI⟩
  · isplitl [Hu] <;> iassumption
  imodintro
  isplitr; · ipureintro; exact ⟨h3, h1, h2⟩
  iexact HSI

/-- Under any float values, from any memory with zero counters: every weakly fair execution of the program ends, and at
    its end every device's arguments are as they were, its result is written and every counter is at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX := (show (BI.own (embR (initOf exchCells exchToks, (1 : Counters))) : sProp 𝕄) ⊢ BI.own (ER (initOf exchCells exchToks)) from Entails.of_eq rfl) $$ HX
      imod (fund_exch m) $$ HX with HG
      imodintro
      isplitl [HP] <;> iassumption)
    (hglob := glob m)
    (hA := fun _ _ => rfl) (hpf := fun _ k => k.elim0)
    (X := start m) (Y := left m) (Z := fun _ => iprop(emp))
    (hX := start_intro m ρ) (hin := phi0_intro m ρ) (hout := phi1_exit m ρ)
    (QY := QY m) (hY := left_read m)
    (hQ := fun s h hs => ⟨fun c => ⟨((h c).1 (0 : Fin 1)).trans ((dats (F := F) m ρ 0 c).arrAt_in (0 : Fin 1) rfl _), (h c).2.2.2⟩,
      sem_eq_zero hs fun c => (h c).2.2.1⟩)

end Cert.KernelIdeal.A2a
end
-- ==== Proof.Math.lean ====
module

public import proofs.«01_k».proof.Proof.Contents
public import Idealize.ShloMosaic.Lib.MatmulPlain
public import Idealize.ShloMosaic.Lib.IdealHost
public import Idealize.ShloMosaic.PureOps.Ideal
public import Idealize.ShloMosaic.PureOps.Ideal.Laws

/-!
# The value of the result

Over the extended reals, the accumulated blocks add up to the whole product, and the last step's product with the
logistic function is the quotient that the plain formula computes.
-/

@[expose] public section

set_option maxRecDepth 16384

noncomputable section

namespace Cert.KernelIdeal.A2a

open Idealize.ShloMosaic Idealize.ShloMosaic.TcCoe
open Idealize.SL Idealize.SL.Sem
open Cert.KernelIdeal Cert.KernelIdeal.Gen
open scoped BigOperators

/-! ## Scalars -/

/-- One plus an exponential is not zero. -/
theorem one_add_exp_ne_zero (x : EReal) : (1 : EReal) + Ideal.exp x ≠ 0 := by
  have h : (0 : EReal) ≤ Ideal.exp x := by
    induction x with
    | bot => exact le_refl _
    | top => exact le_top
    | coe r => exact EReal.coe_nonneg.mpr (Real.exp_pos r).le
  have h1 : (1 : EReal) ≤ 1 + Ideal.exp x := le_add_of_nonneg_right h
  exact fun e => absurd (h1.trans_eq e) (not_le.mpr zero_lt_one)

/-- A number times its logistic value is the number divided by one plus the exponential of its negative. -/
theorem mul_logistic (y : EReal) : y * Ideal.logistic y = Ideal.div y (1 + Ideal.exp (-y)) := by
  unfold Ideal.logistic Ideal.div
  rw [if_neg (one_add_exp_ne_zero _), if_neg (one_add_exp_ne_zero _), one_mul]

/-! ## Sums -/

/-- The sum of `g` over the positions of block `k`. -/
def blockSum (g : Fin 4096 → EReal) (k : Fin 16) : EReal :=
  ∑ i : Fin 256, g ⟨256 * k.val + i.val, by have := k.isLt; have := i.isLt; omega⟩

/-- The blocks' sums add up to the sum over all positions. -/
theorem sum_blockSum (g : Fin 4096 → EReal) : ∑ k : Fin 16, blockSum g k = ∑ i : Fin 4096, g i := by
  unfold blockSum
  rw [← Fintype.sum_prod_type' (f := fun (k : Fin 16) (i : Fin 256) => g ⟨256 * k.val + i.val, by have := k.isLt; have := i.isLt; omega⟩)]
  refine Fintype.sum_equiv (finProdFinEquiv (m := 16) (n := 256)) _ _ fun p => ?_
  congr 1
  apply Fin.ext
  show 256 * p.1.val + p.2.val = p.2.val + 256 * p.1.val
  omega

/-- The blocks in the order in which device `c` takes them. -/
theorem sum_rotated (c : Dev nD) (f : Fin 16 → EReal) : ∑ j : Fin 16, f (kb c j) = ∑ k : Fin 16, f k := by
  refine Fintype.sum_equiv ⟨fun j => kb c j, fun j => kb c j, fun j => ?_, fun j => ?_⟩ _ _ fun _ => rfl <;>
  · apply Fin.ext
    have : c.val < 16 := c.isLt
    have : j.val < 16 := j.isLt
    show (c.val + 16 - (c.val + 16 - j.val) % 16) % 16 = j.val
    omega

/-! ## Products of matrices at an entry -/

/-- A product into a zero accumulator, at an entry. -/
theorem plain_at {M K N : ℕ} {φ₁ φ₂ : FTy} (lhs : FVec Ideal ⟨2, ![M, K]⟩ φ₁) (rhs : FVec Ideal ⟨2, ![K, N]⟩ φ₂)
    (i : (⟨2, ![M, N]⟩ : Shape).Idx) :
    FloatOps.matmul (F := Ideal) (DotDims.plain M K N) none lhs rhs (constant ⟨2, ![M, N]⟩ .f32 0x00000000#32) i
      = ∑ k : Fin K, (lhs (ix2 (n0 := M) (n1 := K) (i 0) k) * rhs (ix2 (n0 := K) (n1 := N) k (i 1)) : EReal) := by
  have hi : i = ValueIdx.ix2 (n0 := M) (n1 := N) (i 0) (i 1) := ValueIdx.eq_ix2 i
  have h := Ideal.matmul_plain_apply none lhs rhs (constant ⟨2, ![M, N]⟩ .f32 0x00000000#32) (i 0) (i 1)
  rw [← hi] at h
  refine h.trans ?_
  show Ideal.ofBits .f32 0x00000000#32 + _ = _
  rw [Ideal.ofBits_zero_f32, zero_add]
  exact Finset.sum_congr rfl fun k _ => congrArg₂ (· * ·) (congrArg lhs (idx2_ext rfl rfl)) (congrArg rhs (idx2_ext rfl rfl))

/-- The host's product, at an entry. -/
theorem host_at {M K N : ℕ} {φ₁ φ₂ : FTy} (lhs : FVec Ideal ⟨2, ![M, K]⟩ φ₁) (rhs : FVec Ideal ⟨2, ![K, N]⟩ φ₂)
    (i : (⟨2, ![M, N]⟩ : Shape).Idx) :
    Host.dotGeneral (F := Ideal) (DotDims.plain M K N) none lhs rhs i
      = ∑ k : Fin K, (lhs (ix2 (n0 := M) (n1 := K) (i 0) k) * rhs (ix2 (n0 := K) (n1 := N) k (i 1)) : EReal) := by
  rw [← plain_at lhs rhs i, Ideal.matmul_constant_zero_apply]
  exact zero_add _

/-! ## The parts of the product -/

section Parts

variable (m : (ℓ : Loc nD τ sig) → Buf (Elt Ideal) ℓ) (X : (⟨2, ![4096, 4096]⟩ : Shape).Idx → EReal) (W : S4096x8192.Idx → EReal)

/-- The product that entry `(r, n)` of the whole product adds up at the contracted position `k`. -/
def term (r : Fin 4096) (n : Fin 8192) (k : Fin 4096) : EReal :=
  X (ix2 (n0 := 4096) (n1 := 4096) r k) * W (ix2 (n0 := 4096) (n1 := 8192) k n)

/-- Row `r` of device `c`, in the whole array. -/
abbrev rowOf (c : Dev nD) (r : Fin 256) : Fin 4096 :=
  ⟨256 * c.val + r.val, by have : c.val < 16 := c.isLt; have := r.isLt; omega⟩

/-- Every device holds its block of columns of `X` and all of `W`. -/
def Holds : Prop :=
  (∀ (c : Dev nD) (r : Fin 4096) (k : Fin 256), XIN m c (ix2 (n0 := 4096) (n1 := 256) r k) = X (ix2 (n0 := 4096) (n1 := 4096) r (rowOf c k)))
    ∧ ∀ c : Dev nD, WIN m c = W

variable {m X W}

/-- Rounding changes nothing here, so the rounded block is the device's columns of `X`. -/
theorem XBF_at (h : Holds m X W) (c : Dev nD) (r : Fin 4096) (k : Fin 256) :
    XBF m c (ix2 (n0 := 4096) (n1 := 256) r k) = X (ix2 (n0 := 4096) (n1 := 4096) r (rowOf c k)) := by
  unfold XBF k0_pay1
  rw [shapeCast_self, shapeCast_self]
  exact h.1 c r k

/-- The columns that step `j` multiplies, at an entry. -/
theorem rowAt_at (h : Holds m X W) (c : Dev nD) (j : Fin 16) (r k : Fin 256) :
    rowAt m c j (ix2 (n0 := 256) (n1 := 256) r k)
      = X (ix2 (n0 := 4096) (n1 := 4096) (rowOf c r) (rowOf (kb c j) k)) := by
  refine Eq.trans ?_ (XBF_at h (kb c j) (rowOf c r) k)
  exact XROW_at m c (kb c j)
    ((Rect.unit (s := S256x4096) (k0_off6 c (BitVec.ofNat 32 j.val)) S256x256.size (k0_off6_inb c j)).emb (ix2 (n0 := 256) (n1 := 256) r k))
    (ix2 (n0 := 4096) (n1 := 256) (rowOf c r) k)
    (emb_val S256x4096 S256x256.size (ix2 (n0 := 256) (n1 := 256) r k) 1 (congrFun (k0_off6_eq c j) 1))
    (congrArg (256 * c.val + ·) ((emb_val S256x4096 S256x256.size (ix2 (n0 := 256) (n1 := 256) r k) 0 (n := 0) (congrFun (k0_off6_eq c j) 0)).trans (Nat.zero_add _)).symm)

/-- The rows of `W` that step `j` multiplies, at an entry of a rectangle of the slot. -/
theorem WBUF_ent (h : Holds m X W) (c : Dev nD) (j : Fin 16) (i : S4x256x8192.Idx) (k : Fin 256) (n : Fin 8192)
    (hk : (i 1).val = k.val) (hn : (i 2).val = n.val) :
    WBUF m c j i = W (ix2 (n0 := 4096) (n1 := 8192) (rowOf (kb c j) k) n) := by
  rw [← h.2 c]
  exact WBUF_at m c j i _ (congrArg (256 * (kb c j).val + ·) hk.symm) hn.symm

/-- The slot that step `j` multiplies, at an entry. -/
theorem slotAt_at (h : Holds m X W) (c : Dev nD) (j : Fin 16) (k : Fin 256) (n : Fin 8192) :
    shapeCast S256x8192 (slotAt m c j) shapeCasts_S1x256x8192_S256x8192 (ix2 (n0 := 256) (n1 := 8192) k n)
      = W (ix2 (n0 := 4096) (n1 := 8192) (rowOf (kb c j) k) n) := by
  refine (shapeCast_dropUnit_apply ![256, 8192] (slotAt m c j) shapeCasts_S1x256x8192_S256x8192 _).trans ?_
  exact WBUF_ent h c j
    ((Rect.unit (s := S4x256x8192) ![(slotOf j).val, 0, 0] S1x256x8192.size (inbSlot (slotOf j))).emb (Fin.cons ⟨0, Nat.one_pos⟩ (ix2 (n0 := 256) (n1 := 8192) k n))) k n
    ((emb_val S4x256x8192 S1x256x8192.size _ 1 (n := 0) rfl).trans (Nat.zero_add _))
    ((emb_val S4x256x8192 S1x256x8192.size _ 2 (n := 0) rfl).trans (Nat.zero_add _))

/-- What step `j` adds to entry `(r, n)` is the sum over the block of the device that it serves. -/
theorem step_at (h : Holds m X W) (c : Dev nD) (j : Fin 16) (i : S256x8192.Idx) :
    matmul (F := Ideal) dot_S256x256_S256x8192_S256x8192_1_0_0_1_n_n none (φ₁ := .bf16) (rowAt m c j)
      (truncf .bf16 (shapeCast S256x8192 (slotAt m c j) shapeCasts_S1x256x8192_S256x8192) bitsLt_bf16_f32)
      (constant S256x8192 .f32 0x00000000#32) i = blockSum (term X W (rowOf c (i 0)) (i 1)) (kb c j) := by
  refine (plain_at (M := 256) (K := 256) (N := 8192) _ _ i).trans ?_
  exact Finset.sum_congr rfl fun k _ => congrArg₂ (· * ·) (rowAt_at h c j (i 0) k) (slotAt_at h c j k (i 1))

/-- The accumulator after step `n` holds the sums over the blocks so far. -/
theorem accAt_at (h : Holds m X W) (c : Dev nD) (i : S256x8192.Idx) (n : ℕ) :
    accAt m c n i = ∑ j ∈ Finset.range (n + 1), blockSum (term X W (rowOf c (i 0)) (i 1)) (kb c ⟨j % 16, Nat.mod_lt _ (by decide)⟩) := by
  induction n with
  | zero =>
    rw [Finset.sum_range_one]
    unfold accAt k0_pay3
    rw [shapeCast_self]
    exact step_at h c 0 i
  | succ n ih =>
    rw [Finset.sum_range_succ, ← ih]
    conv_lhs => unfold accAt k0_pay6
    rw [shapeCast_self]
    exact congrArg (accAt m c n i + ·) (step_at h c _ i)

/-- Entry `i` of the whole product's rows on device `c`. -/
def dotAt (X : (⟨2, ![4096, 4096]⟩ : Shape).Idx → EReal) (W : S4096x8192.Idx → EReal) (r : Fin 4096) (n : Fin 8192) : EReal :=
  ∑ k : Fin 4096, term X W r n k

/-- The accumulator and the last step's product add up to the whole product. -/
theorem total (c : Dev nD) (r : Fin 4096) (n : Fin 8192) :
    (∑ j ∈ Finset.range 15, blockSum (term X W r n) (kb c ⟨j % 16, Nat.mod_lt _ (by decide)⟩)) + blockSum (term X W r n) (kb c 15)
      = dotAt X W r n := by
  have h := Finset.sum_range_succ (fun j => blockSum (term X W r n) (kb c ⟨j % 16, Nat.mod_lt _ (by decide)⟩)) 15
  refine h.symm.trans ?_
  rw [Finset.sum_range]
  refine Eq.trans ?_ ((sum_rotated c _).trans (sum_blockSum _))
  exact Finset.sum_congr rfl fun j _ => congrArg (fun x => blockSum (term X W r n) (kb c x)) (Fin.ext (Nat.mod_eq_of_lt j.isLt))

/-- What the last step adds to a quarter. -/
theorem last_at (h : Holds m X W) (c : Dev nD) (q : Fin 4) (i : S256x2048.Idx) (n : Fin 8192) (hn : n.val = 2048 * q.val + (i 1).val) :
    matmul (F := Ideal) dot_S256x256_S256x2048_S256x2048_1_0_0_1_n_n none (φ₁ := .bf16) (rowAt m c 15)
      (truncf .bf16 (shapeCast S256x2048
        (mBuf.view.readAt (Elt Ideal) (Rect.unit (s := S4x256x8192) ![3, 0, 2048 * q.val] S1x256x2048.size (inbSlotQ q)).toLoadRect (WBUF m c 15))
        shapeCasts_S1x256x2048_S256x2048) bitsLt_bf16_f32)
      (constant S256x2048 .f32 0x00000000#32) i = blockSum (term X W (rowOf c (i 0)) n) (kb c 15) := by
  refine (plain_at (M := 256) (K := 256) (N := 2048) _ _ i).trans ?_
  refine Finset.sum_congr rfl fun k _ => congrArg₂ (· * ·) (rowAt_at h c 15 (i 0) k) ?_
  refine (shapeCast_dropUnit_apply ![256, 2048]
    (mBuf.view.readAt (Elt Ideal) (Rect.unit (s := S4x256x8192) ![3, 0, 2048 * q.val] S1x256x2048.size (inbSlotQ q)).toLoadRect (WBUF m c 15))
    shapeCasts_S1x256x2048_S256x2048 (ix2 (n0 := 256) (n1 := 2048) k (i 1))).trans ?_
  exact WBUF_ent h c 15
    ((Rect.unit (s := S4x256x8192) ![3, 0, 2048 * q.val] S1x256x2048.size (inbSlotQ q)).emb (Fin.cons ⟨0, Nat.one_pos⟩ (ix2 (n0 := 256) (n1 := 2048) k (i 1)))) k n
    ((emb_val S4x256x8192 S1x256x2048.size _ 1 (n := 0) rfl).trans (Nat.zero_add _))
    ((emb_val S4x256x8192 S1x256x2048.size _ 2 (n := 2048 * q.val) rfl).trans hn.symm)

/-- A quarter of the result at an entry: the whole product there, times its logistic value. -/
theorem outQ_at (h : Holds m X W) (c : Dev nD) (q : Fin 4) (i : S256x2048.Idx) (n : Fin 8192) (hn : n.val = 2048 * q.val + (i 1).val) :
    outQ m c q i = dotAt X W (rowOf c (i 0)) n * Ideal.logistic (dotAt X W (rowOf c (i 0)) n) := by
  have hacc : mAcc.view.readAt (Elt Ideal) (Rect.unit (s := S256x8192) ![0, 2048 * q.val] S256x2048.size (inbQ q)).toLoadRect (accAt m c 14) i
      = ∑ j ∈ Finset.range 15, blockSum (term X W (rowOf c (i 0)) n) (kb c ⟨j % 16, Nat.mod_lt _ (by decide)⟩) := by
    have he : ((Rect.unit (s := S256x8192) ![0, 2048 * q.val] S256x2048.size (inbQ q)).emb i : S256x8192.Idx)
        = ix2 (n0 := 256) (n1 := 8192) (i 0) n :=
      idx2_ext ((emb_val S256x8192 S256x2048.size i 0 (n := 0) rfl).trans (Nat.zero_add _))
        ((emb_val S256x8192 S256x2048.size i 1 (n := 2048 * q.val) rfl).trans hn.symm)
    exact (congrArg (accAt m c 14) he).trans (accAt_at h c (ix2 (n0 := 256) (n1 := 8192) (i 0) n) 14)
  unfold outQ k0_pay21
  rw [shapeCast_self]
  have hy := (congrArg₂ (· + ·) hacc (last_at h c q i n hn)).trans (total c (rowOf c (i 0)) n)
  exact congrArg (fun y : EReal => y * Ideal.logistic y) hy

/-- The result of device `c` at an entry. -/
theorem OUT_value (h : Holds m X W) (c : Dev nD) (i : S256x8192.Idx) :
    OUT m c i = Ideal.div (dotAt X W (rowOf c (i 0)) (i 1)) (1 + Ideal.exp (-(dotAt X W (rowOf c (i 0)) (i 1)))) := by
  rw [← mul_logistic]
  have hi : (i 1).val < 8192 := (i 1).isLt
  have hd : (i 1).val = 2048 * ((i 1).val / 2048) + (i 1).val % 2048 := by omega
  let y : S256x2048.Idx := ix2 (n0 := 256) (n1 := 2048) (i 0) ⟨(i 1).val % 2048, Nat.mod_lt _ (by decide)⟩
  exact (OUT_at m c ⟨(i 1).val / 2048, Nat.div_lt_of_lt_mul hi⟩ i y rfl hd).trans (outQ_at h c _ y (i 1) hd)

end Parts

end Cert.KernelIdeal.A2a
end
-- ==== Proof.lean ====
/- The claims of this certificate: each program's frame, the kernel's text being its idealization's, and the value of
   the kernel at the ideal instance against the reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceClippedIdeal
public import proofs.«01_k».proof.Proof.Gen.ReferenceClippedIdeal.Run
public import proofs.«01_k».proof.Proof.Gen.On_within_clip
public import proofs.«01_k».proof.Proof.Run
public import proofs.«01_k».proof.Proof.Math
public import Idealize.ShloMosaic.Lib.Quiescent
public import Idealize.ShloMosaic.Lib.LayoutAt
public import Idealize.ShloMosaic.Adequacy
public import Idealize.ShloMosaic.Init

@[expose] public section

set_option maxRecDepth 16384

noncomputable section

namespace Cert.Proof

open Idealize.ShloMosaic Idealize.ShloMosaic.TcCoe Idealize.SL.Sem
open Cert.KernelIdeal.A2a (QC XIN WIN OUT Holds dotAt rowOf run_main OUT_value host_at)

/-- The two programs' body tables are one table: each has one label, with one body. -/
theorem table_eq : Cert.Kernel.defs₀ (F := Bits) = Cert.KernelIdeal.defs₀ (F := Bits) :=
  congrArg Defs.onTc (funext fun l => by
    match l with
    | 0 => exact funext fun x => by cases x; rfl)

/-- So are the tables with the launch's region and pipeline. -/
theorem defs_eq : Cert.Kernel.defs (F := Bits) = Cert.KernelIdeal.defs (F := Bits) :=
  congrArg (Pipeline.defs Cert.KernelIdeal.pcfgs) table_eq

/-- `Kernel` ends with its arguments unchanged and its semaphores at zero: its text is `KernelIdeal`'s. -/
theorem frame_kernel : Cert.quiescent_Kernel := fun m ρ _ => by
  rw [defs_eq]
  exact (θ_run Cert.KernelIdeal.defs _ _).mono (fun _ h => ⟨fun c => ⟨(h.1 c).1, (h.1 c).2.1⟩, h.2⟩) (run_main (F := Bits) m ρ)

/-- `KernelIdeal` ends with its arguments unchanged and its semaphores at zero. -/
theorem frame_ideal : Cert.quiescent_KernelIdeal := fun m ρ _ =>
  (θ_run Cert.KernelIdeal.defs _ _).mono (fun _ h => ⟨fun c => ⟨(h.1 c).1, (h.1 c).2.1⟩, h.2⟩) (run_main (F := Ideal) m ρ)

/-- `ReferenceIdeal` ends with its arguments unchanged; it has no semaphores. -/
theorem frame_reference : Cert.quiescent_ReferenceIdeal := fun m ρ _ =>
  (θ_run Cert.ReferenceIdeal.defs _ _).mono
    (fun r h => ⟨fun c => ⟨(h c).2.1, (h c).2.2⟩, sem_eq_zero_of_no_sems rfl r.2⟩)
    (Cert.ReferenceIdeal.Value.run (F := Ideal) m ρ)

open Cert.ReferenceIdeal Cert.ReferenceIdeal.Gen in
/-- What the reference computes from `X` and `W`: the product over one plus the exponential of its negative. -/
def refVal (X : FVec Ideal S4096x4096 .f32) (W : FVec Ideal S4096x8192 .f32) : FVec Ideal S4096x8192 .f32 :=
  Host.divf (Host.dotGeneral dot_S4096x4096_S4096x8192_S4096x8192_1_0_0_1_n_n none (truncf .bf16 X bitsLt_bf16_f32) (truncf .bf16 W bitsLt_bf16_f32))
    (addf (broadcastInDim S4096x8192 ![] bcast_S_S4096x8192 (constant S_ .f32 0x3F800000#32))
      (Host.exp (Host.negf (Host.dotGeneral dot_S4096x4096_S4096x8192_S4096x8192_1_0_0_1_n_n none (truncf .bf16 X bitsLt_bf16_f32) (truncf .bf16 W bitsLt_bf16_f32)))))

open Cert.ReferenceIdeal Cert.ReferenceIdeal.Gen in
/-- The reference's value at an entry. -/
theorem refVal_at (X : FVec Ideal S4096x4096 .f32) (W : FVec Ideal S4096x8192 .f32) (i : S4096x8192.Idx) :
    refVal X W i = Ideal.div (dotAt X W (i 0) (i 1)) (1 + Ideal.exp (-(dotAt X W (i 0) (i 1)))) := by
  have hd : Host.dotGeneral (F := Ideal) dot_S4096x4096_S4096x8192_S4096x8192_1_0_0_1_n_n none (truncf .bf16 X bitsLt_bf16_f32) (truncf .bf16 W bitsLt_bf16_f32) i
      = dotAt X W (i 0) (i 1) :=
    host_at (M := 4096) (K := 4096) (N := 8192) (φ₁ := .bf16) (φ₂ := .bf16) X W i
  rw [← hd, ← Ideal.ofBits_one_f32]
  rfl

/-- Each device's result is its block of rows of the reference's value. -/
theorem result_block (m : (ℓ : Loc Cert.KernelIdeal.nD Cert.KernelIdeal.τ Cert.KernelIdeal.sig) → Buf (Elt Ideal) ℓ)
    (X : FVec Ideal Cert.ReferenceIdeal.S4096x4096 .f32) (W : FVec Ideal Cert.ReferenceIdeal.S4096x8192 .f32) (h : Holds m X W) (c : Dev Cert.KernelIdeal.nD) :
    OUT m c = Layout.block ⟨2, ![256, 8192]⟩ ⟨2, ![4096, 8192]⟩ 0 16 c (refVal X W) := by
  funext i
  rw [Layout.block_apply, OUT_value h c i, refVal_at]
  have e0 : (rowOf c (i 0) : Fin 4096) = (Layout.Tiles.idx (S := ⟨2, ![256, 8192]⟩) (T := ⟨2, ![4096, 8192]⟩) (a := 0) (k := 16) (by decide) c i) 0 := by
    apply Fin.ext
    show 256 * c.val + (i 0).val = _
    shard_ext
  have e1 : (i 1 : Fin 8192) = (Layout.Tiles.idx (S := ⟨2, ![256, 8192]⟩) (T := ⟨2, ![4096, 8192]⟩) (a := 0) (k := 16) (by decide) c i) 1 := by
    shard_ext
  rw [e0, e1]

/-- Blocks of columns of `X` and copies of `W` are what the devices hold. -/
theorem holds_of (m : (ℓ : Loc Cert.KernelIdeal.nD Cert.KernelIdeal.τ Cert.KernelIdeal.sig) → Buf (Elt Ideal) ℓ)
    (X : FVec Ideal Cert.ReferenceIdeal.S4096x4096 .f32) (W : FVec Ideal Cert.ReferenceIdeal.S4096x8192 .f32)
    (h : ∀ c : Dev Cert.KernelIdeal.nD, XIN m c = Layout.block ⟨2, ![4096, 256]⟩ ⟨2, ![4096, 4096]⟩ 1 16 c X ∧ WIN m c = W) : Holds m X W := by
  refine ⟨fun c r k => ?_, fun c => (h c).2⟩
  rw [(h c).1, Layout.block_apply]
  refine congrArg X (Cert.KernelIdeal.A2a.idx2_ext ?_ ?_)
  · shard_norm
  · shard_norm
    show c.val * 256 + k.val = 256 * c.val + k.val
    omega

/-- At the ideal values the kernel's result on every device is its block of rows of the reference's. -/
theorem value : Cert.algebraic_KernelIdeal_ReferenceIdeal := fun m ρ m' ρ' _ hin => by
  have hH := holds_of m _ _ hin
  refine ⟨refVal (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun r h c => ⟨(h.1 c).2.2.trans (result_block m _ _ hH c), (h.1 c).1, (h.1 c).2.1⟩) (run_main (F := Ideal) m ρ)
  · exact (θ_run Cert.ReferenceIdeal.defs _ _).mono (fun r h => h 0) (Cert.ReferenceIdeal.Value.run (F := Ideal) m' ρ')

/-- `ReferenceClippedIdeal` ends with its arguments unchanged; it has no semaphores. -/
theorem frame_clipped : Cert.quiescent_ReferenceClippedIdeal := fun m ρ _ =>
  (θ_run Cert.ReferenceClippedIdeal.defs _ _).mono
    (fun r h => ⟨fun c => ⟨(h c).2.1, (h c).2.2⟩, sem_eq_zero_of_no_sems rfl r.2⟩)
    (Cert.ReferenceClippedIdeal.Value.run (F := Ideal) m ρ)

open Cert.ReferenceClippedIdeal Cert.ReferenceClippedIdeal.Gen in
/-- What the clipped reference computes from `X` and `W`: as `refVal`, with the exponent clipped to [-60, 60]. -/
def clipVal (X : FVec Ideal S4096x4096 .f32) (W : FVec Ideal S4096x8192 .f32) : FVec Ideal S4096x8192 .f32 :=
  Host.divf (Host.dotGeneral dot_S4096x4096_S4096x8192_S4096x8192_1_0_0_1_n_n none (truncf .bf16 X bitsLt_bf16_f32) (truncf .bf16 W bitsLt_bf16_f32))
    (addf (broadcastInDim S4096x8192 ![] bcast_S_S4096x8192 (constant S_ .f32 0x3F800000#32))
      (Host.exp (Host.negf (minimumf (broadcastInDim S4096x8192 ![] bcast_S_S4096x8192 (id (constant S_ .f32 0x42700000#32)))
        (maximumf (broadcastInDim S4096x8192 ![] bcast_S_S4096x8192 (id (constant S_ .f32 0xC2700000#32)))
          (Host.dotGeneral dot_S4096x4096_S4096x8192_S4096x8192_1_0_0_1_n_n none (truncf .bf16 X bitsLt_bf16_f32) (truncf .bf16 W bitsLt_bf16_f32)))))))

/-- The clip's lower end. -/
abbrev lowEnd : EReal := Ideal.ofBits .f32 0xC2700000#32
/-- The clip's upper end. -/
abbrev highEnd : EReal := Ideal.ofBits .f32 0x42700000#32

open Cert.ReferenceClippedIdeal Cert.ReferenceClippedIdeal.Gen in
/-- The clipped reference's value at an entry. -/
theorem clipVal_at (X : FVec Ideal S4096x4096 .f32) (W : FVec Ideal S4096x8192 .f32) (i : S4096x8192.Idx) :
    clipVal X W i = Ideal.div (dotAt X W (i 0) (i 1)) (1 + Ideal.exp (-(min highEnd (max lowEnd (dotAt X W (i 0) (i 1)))))) := by
  have hd : Host.dotGeneral (F := Ideal) dot_S4096x4096_S4096x8192_S4096x8192_1_0_0_1_n_n none (truncf .bf16 X bitsLt_bf16_f32) (truncf .bf16 W bitsLt_bf16_f32) i
      = dotAt X W (i 0) (i 1) :=
    host_at (M := 4096) (K := 4096) (N := 8192) (φ₁ := .bf16) (φ₂ := .bf16) X W i
  rw [← hd, ← Ideal.ofBits_one_f32]
  rfl

/-- Where two comparisons' words and to one, both comparisons hold. -/
theorem both_hold (x lo hi : EReal) (h : Ideal.cmp .oge x lo &&& Ideal.cmp .ole x hi = 1#1) : lo ≤ x ∧ x ≤ hi := by
  unfold Ideal.cmp at h
  by_cases h1 : lo ≤ x <;> by_cases h2 : x ≤ hi <;> simp_all

open Cert.On_within_clip Cert.On_within_clip.Gen in
/-- Where the mask is set, the product lies within the clip. -/
theorem mask_at (X : FVec Ideal S4096x4096 .f32) (W : FVec Ideal S4096x8192 .f32) (i : S4096x8192.Idx)
    (h : Cert.On_within_clip.fn (F := Ideal) X W i = 1#1) : lowEnd ≤ dotAt X W (i 0) (i 1) ∧ dotAt X W (i 0) (i 1) ≤ highEnd := by
  have hd : Host.dotGeneral (F := Ideal) dot_S4096x4096_S4096x8192_S4096x8192_1_0_0_1_n_n none (truncf .bf16 X bitsLt_bf16_f32) (truncf .bf16 W bitsLt_bf16_f32) i
      = dotAt X W (i 0) (i 1) :=
    host_at (M := 4096) (K := 4096) (N := 8192) (φ₁ := .bf16) (φ₂ := .bf16) X W i
  rw [← hd]
  exact both_hold _ _ _ h

/-- Where the mask is set, the clip changes nothing. -/
theorem clip_eq (X : FVec Ideal Cert.ReferenceIdeal.S4096x4096 .f32) (W : FVec Ideal Cert.ReferenceIdeal.S4096x8192 .f32)
    (i : Cert.ReferenceIdeal.S4096x8192.Idx) (h : Cert.On_within_clip.fn (F := Ideal) X W i = 1#1) : refVal X W i = clipVal X W i := by
  obtain ⟨h1, h2⟩ := mask_at X W i h
  rw [refVal_at, clipVal_at, max_eq_right h1, min_eq_right h2]

/-- At the ideal values the kernel's result is the clipped reference's at every entry whose product lies within the clip. -/
theorem value_clipped : Cert.algebraic_KernelIdeal_ReferenceClippedIdeal_on_within_clip := fun m ρ m' ρ' _ hin => by
  have hH := holds_of m _ _ hin
  refine ⟨clipVal (m' (((0 : Dev Cert.ReferenceClippedIdeal.nD).tc : Thread Cert.ReferenceClippedIdeal.nD Cert.ReferenceClippedIdeal.τ).loc Cert.ReferenceClippedIdeal.main_arg0))
    (m' (((0 : Dev Cert.ReferenceClippedIdeal.nD).tc : Thread Cert.ReferenceClippedIdeal.nD Cert.ReferenceClippedIdeal.τ).loc Cert.ReferenceClippedIdeal.main_arg1)), ?_, ?_⟩
  · exact (θ_run Cert.KernelIdeal.defs _ _).mono
      (fun r h c => ⟨fun i hi => (congrFun ((h.1 c).2.2.trans (result_block m _ _ hH c)) i).trans (clip_eq _ _ _ hi), (h.1 c).1, (h.1 c).2.1⟩)
      (run_main (F := Ideal) m ρ)
  · exact (θ_run Cert.ReferenceClippedIdeal.defs _ _).mono (fun r h => ⟨fun i _ => congrFun (h 0).1 i, (h 0).2⟩)
      (Cert.ReferenceClippedIdeal.Value.run (F := Ideal) m' ρ')

/-- Every claim of this certificate. -/
theorem claim : Cert.Claim :=
  ⟨Cert.Kernel.Gen.facts, Cert.KernelIdeal.Gen.facts, Cert.ReferenceIdeal.Gen.facts, Cert.ReferenceClippedIdeal.Gen.facts, Cert.On_within_clip.Gen.facts,
    frame_kernel, frame_ideal, frame_reference, frame_clipped, trivial, value, value_clipped⟩

end Cert.Proof

end
